-- ==== Defs.lean ====
def Pre_Diff (m : (ℓ : Loc Cert.Diff.nD Cert.Diff.τ Cert.Diff.sig) → Buf (Elt Bits) ℓ) : Prop :=
  True

def Pre_DiffIdeal (m : (ℓ : Loc Cert.DiffIdeal.nD Cert.DiffIdeal.τ Cert.DiffIdeal.sig) → Buf (Elt Ideal) ℓ) : Prop :=
  True

def Pre_DiffIdeal_finite [hPre_finite : Cert.Pre_finite.Facts] (m : (ℓ : Loc Cert.DiffIdeal.nD Cert.DiffIdeal.τ Cert.DiffIdeal.sig) → Buf (Elt Ideal) ℓ) : Prop :=
  ∀ c : Dev Cert.DiffIdeal.nD,
    (Cert.Pre_finite.fn (F := Ideal) (m ((c.tc : Thread Cert.DiffIdeal.nD Cert.DiffIdeal.τ).loc Cert.DiffIdeal.main_arg0)) (m ((c.tc : Thread Cert.DiffIdeal.nD Cert.DiffIdeal.τ).loc Cert.DiffIdeal.main_arg1)) (m ((c.tc : Thread Cert.DiffIdeal.nD Cert.DiffIdeal.τ).loc Cert.DiffIdeal.main_arg2)) (m ((c.tc : Thread Cert.DiffIdeal.nD Cert.DiffIdeal.τ).loc Cert.DiffIdeal.main_arg3)) (m ((c.tc : Thread Cert.DiffIdeal.nD Cert.DiffIdeal.τ).loc Cert.DiffIdeal.main_arg4)) (m ((c.tc : Thread Cert.DiffIdeal.nD Cert.DiffIdeal.τ).loc Cert.DiffIdeal.main_arg5)) (m ((c.tc : Thread Cert.DiffIdeal.nD Cert.DiffIdeal.τ).loc Cert.DiffIdeal.main_arg6)) (m ((c.tc : Thread Cert.DiffIdeal.nD Cert.DiffIdeal.τ).loc Cert.DiffIdeal.main_arg7))).1 = (fun _ => 1#1)
    ∧ (Cert.Pre_finite.fn (F := Ideal) (m ((c.tc : Thread Cert.DiffIdeal.nD Cert.DiffIdeal.τ).loc Cert.DiffIdeal.main_arg0)) (m ((c.tc : Thread Cert.DiffIdeal.nD Cert.DiffIdeal.τ).loc Cert.DiffIdeal.main_arg1)) (m ((c.tc : Thread Cert.DiffIdeal.nD Cert.DiffIdeal.τ).loc Cert.DiffIdeal.main_arg2)) (m ((c.tc : Thread Cert.DiffIdeal.nD Cert.DiffIdeal.τ).loc Cert.DiffIdeal.main_arg3)) (m ((c.tc : Thread Cert.DiffIdeal.nD Cert.DiffIdeal.τ).loc Cert.DiffIdeal.main_arg4)) (m ((c.tc : Thread Cert.DiffIdeal.nD Cert.DiffIdeal.τ).loc Cert.DiffIdeal.main_arg5)) (m ((c.tc : Thread Cert.DiffIdeal.nD Cert.DiffIdeal.τ).loc Cert.DiffIdeal.main_arg6)) (m ((c.tc : Thread Cert.DiffIdeal.nD Cert.DiffIdeal.τ).loc Cert.DiffIdeal.main_arg7))).2.1 = (fun _ => 1#1)
    ∧ (Cert.Pre_finite.fn (F := Ideal) (m ((c.tc : Thread Cert.DiffIdeal.nD Cert.DiffIdeal.τ).loc Cert.DiffIdeal.main_arg0)) (m ((c.tc : Thread Cert.DiffIdeal.nD Cert.DiffIdeal.τ).loc Cert.DiffIdeal.main_arg1)) (m ((c.tc : Thread Cert.DiffIdeal.nD Cert.DiffIdeal.τ).loc Cert.DiffIdeal.main_arg2)) (m ((c.tc : Thread Cert.DiffIdeal.nD Cert.DiffIdeal.τ).loc Cert.DiffIdeal.main_arg3)) (m ((c.tc : Thread Cert.DiffIdeal.nD Cert.DiffIdeal.τ).loc Cert.DiffIdeal.main_arg4)) (m ((c.tc : Thread Cert.DiffIdeal.nD Cert.DiffIdeal.τ).loc Cert.DiffIdeal.main_arg5)) (m ((c.tc : Thread Cert.DiffIdeal.nD Cert.DiffIdeal.τ).loc Cert.DiffIdeal.main_arg6)) (m ((c.tc : Thread Cert.DiffIdeal.nD Cert.DiffIdeal.τ).loc Cert.DiffIdeal.main_arg7))).2.2.1 = (fun _ => 1#1)
    ∧ (Cert.Pre_finite.fn (F := Ideal) (m ((c.tc : Thread Cert.DiffIdeal.nD Cert.DiffIdeal.τ).loc Cert.DiffIdeal.main_arg0)) (m ((c.tc : Thread Cert.DiffIdeal.nD Cert.DiffIdeal.τ).loc Cert.DiffIdeal.main_arg1)) (m ((c.tc : Thread Cert.DiffIdeal.nD Cert.DiffIdeal.τ).loc Cert.DiffIdeal.main_arg2)) (m ((c.tc : Thread Cert.DiffIdeal.nD Cert.DiffIdeal.τ).loc Cert.DiffIdeal.main_arg3)) (m ((c.tc : Thread Cert.DiffIdeal.nD Cert.DiffIdeal.τ).loc Cert.DiffIdeal.main_arg4)) (m ((c.tc : Thread Cert.DiffIdeal.nD Cert.DiffIdeal.τ).loc Cert.DiffIdeal.main_arg5)) (m ((c.tc : Thread Cert.DiffIdeal.nD Cert.DiffIdeal.τ).loc Cert.DiffIdeal.main_arg6)) (m ((c.tc : Thread Cert.DiffIdeal.nD Cert.DiffIdeal.τ).loc Cert.DiffIdeal.main_arg7))).2.2.2.1 = (fun _ => 1#1)
    ∧ (Cert.Pre_finite.fn (F := Ideal) (m ((c.tc : Thread Cert.DiffIdeal.nD Cert.DiffIdeal.τ).loc Cert.DiffIdeal.main_arg0)) (m ((c.tc : Thread Cert.DiffIdeal.nD Cert.DiffIdeal.τ).loc Cert.DiffIdeal.main_arg1)) (m ((c.tc : Thread Cert.DiffIdeal.nD Cert.DiffIdeal.τ).loc Cert.DiffIdeal.main_arg2)) (m ((c.tc : Thread Cert.DiffIdeal.nD Cert.DiffIdeal.τ).loc Cert.DiffIdeal.main_arg3)) (m ((c.tc : Thread Cert.DiffIdeal.nD Cert.DiffIdeal.τ).loc Cert.DiffIdeal.main_arg4)) (m ((c.tc : Thread Cert.DiffIdeal.nD Cert.DiffIdeal.τ).loc Cert.DiffIdeal.main_arg5)) (m ((c.tc : Thread Cert.DiffIdeal.nD Cert.DiffIdeal.τ).loc Cert.DiffIdeal.main_arg6)) (m ((c.tc : Thread Cert.DiffIdeal.nD Cert.DiffIdeal.τ).loc Cert.DiffIdeal.main_arg7))).2.2.2.2.1 = (fun _ => 1#1)
    ∧ (Cert.Pre_finite.fn (F := Ideal) (m ((c.tc : Thread Cert.DiffIdeal.nD Cert.DiffIdeal.τ).loc Cert.DiffIdeal.main_arg0)) (m ((c.tc : Thread Cert.DiffIdeal.nD Cert.DiffIdeal.τ).loc Cert.DiffIdeal.main_arg1)) (m ((c.tc : Thread Cert.DiffIdeal.nD Cert.DiffIdeal.τ).loc Cert.DiffIdeal.main_arg2)) (m ((c.tc : Thread Cert.DiffIdeal.nD Cert.DiffIdeal.τ).loc Cert.DiffIdeal.main_arg3)) (m ((c.tc : Thread Cert.DiffIdeal.nD Cert.DiffIdeal.τ).loc Cert.DiffIdeal.main_arg4)) (m ((c.tc : Thread Cert.DiffIdeal.nD Cert.DiffIdeal.τ).loc Cert.DiffIdeal.main_arg5)) (m ((c.tc : Thread Cert.DiffIdeal.nD Cert.DiffIdeal.τ).loc Cert.DiffIdeal.main_arg6)) (m ((c.tc : Thread Cert.DiffIdeal.nD Cert.DiffIdeal.τ).loc Cert.DiffIdeal.main_arg7))).2.2.2.2.2.1 = (fun _ => 1#1)
    ∧ (Cert.Pre_finite.fn (F := Ideal) (m ((c.tc : Thread Cert.DiffIdeal.nD Cert.DiffIdeal.τ).loc Cert.DiffIdeal.main_arg0)) (m ((c.tc : Thread Cert.DiffIdeal.nD Cert.DiffIdeal.τ).loc Cert.DiffIdeal.main_arg1)) (m ((c.tc : Thread Cert.DiffIdeal.nD Cert.DiffIdeal.τ).loc Cert.DiffIdeal.main_arg2)) (m ((c.tc : Thread Cert.DiffIdeal.nD Cert.DiffIdeal.τ).loc Cert.DiffIdeal.main_arg3)) (m ((c.tc : Thread Cert.DiffIdeal.nD Cert.DiffIdeal.τ).loc Cert.DiffIdeal.main_arg4)) (m ((c.tc : Thread Cert.DiffIdeal.nD Cert.DiffIdeal.τ).loc Cert.DiffIdeal.main_arg5)) (m ((c.tc : Thread Cert.DiffIdeal.nD Cert.DiffIdeal.τ).loc Cert.DiffIdeal.main_arg6)) (m ((c.tc : Thread Cert.DiffIdeal.nD Cert.DiffIdeal.τ).loc Cert.DiffIdeal.main_arg7))).2.2.2.2.2.2 = (fun _ => 1#1)

def Pre_DiffRefIdeal (m : (ℓ : Loc Cert.DiffRefIdeal.nD Cert.DiffRefIdeal.τ Cert.DiffRefIdeal.sig) → Buf (Elt Ideal) ℓ) : Prop :=
  True

def Pre_DiffRefIdeal_finite [hPre_finite : Cert.Pre_finite.Facts] (m : (ℓ : Loc Cert.DiffRefIdeal.nD Cert.DiffRefIdeal.τ Cert.DiffRefIdeal.sig) → Buf (Elt Ideal) ℓ) : Prop :=
  ∀ c : Dev Cert.DiffRefIdeal.nD,
    (Cert.Pre_finite.fn (F := Ideal) (m ((c.tc : Thread Cert.DiffRefIdeal.nD Cert.DiffRefIdeal.τ).loc Cert.DiffRefIdeal.main_arg0)) (m ((c.tc : Thread Cert.DiffRefIdeal.nD Cert.DiffRefIdeal.τ).loc Cert.DiffRefIdeal.main_arg1)) (m ((c.tc : Thread Cert.DiffRefIdeal.nD Cert.DiffRefIdeal.τ).loc Cert.DiffRefIdeal.main_arg2)) (m ((c.tc : Thread Cert.DiffRefIdeal.nD Cert.DiffRefIdeal.τ).loc Cert.DiffRefIdeal.main_arg3)) (m ((c.tc : Thread Cert.DiffRefIdeal.nD Cert.DiffRefIdeal.τ).loc Cert.DiffRefIdeal.main_arg4)) (m ((c.tc : Thread Cert.DiffRefIdeal.nD Cert.DiffRefIdeal.τ).loc Cert.DiffRefIdeal.main_arg5)) (m ((c.tc : Thread Cert.DiffRefIdeal.nD Cert.DiffRefIdeal.τ).loc Cert.DiffRefIdeal.main_arg6)) (m ((c.tc : Thread Cert.DiffRefIdeal.nD Cert.DiffRefIdeal.τ).loc Cert.DiffRefIdeal.main_arg7))).1 = (fun _ => 1#1)
    ∧ (Cert.Pre_finite.fn (F := Ideal) (m ((c.tc : Thread Cert.DiffRefIdeal.nD Cert.DiffRefIdeal.τ).loc Cert.DiffRefIdeal.main_arg0)) (m ((c.tc : Thread Cert.DiffRefIdeal.nD Cert.DiffRefIdeal.τ).loc Cert.DiffRefIdeal.main_arg1)) (m ((c.tc : Thread Cert.DiffRefIdeal.nD Cert.DiffRefIdeal.τ).loc Cert.DiffRefIdeal.main_arg2)) (m ((c.tc : Thread Cert.DiffRefIdeal.nD Cert.DiffRefIdeal.τ).loc Cert.DiffRefIdeal.main_arg3)) (m ((c.tc : Thread Cert.DiffRefIdeal.nD Cert.DiffRefIdeal.τ).loc Cert.DiffRefIdeal.main_arg4)) (m ((c.tc : Thread Cert.DiffRefIdeal.nD Cert.DiffRefIdeal.τ).loc Cert.DiffRefIdeal.main_arg5)) (m ((c.tc : Thread Cert.DiffRefIdeal.nD Cert.DiffRefIdeal.τ).loc Cert.DiffRefIdeal.main_arg6)) (m ((c.tc : Thread Cert.DiffRefIdeal.nD Cert.DiffRefIdeal.τ).loc Cert.DiffRefIdeal.main_arg7))).2.1 = (fun _ => 1#1)
    ∧ (Cert.Pre_finite.fn (F := Ideal) (m ((c.tc : Thread Cert.DiffRefIdeal.nD Cert.DiffRefIdeal.τ).loc Cert.DiffRefIdeal.main_arg0)) (m ((c.tc : Thread Cert.DiffRefIdeal.nD Cert.DiffRefIdeal.τ).loc Cert.DiffRefIdeal.main_arg1)) (m ((c.tc : Thread Cert.DiffRefIdeal.nD Cert.DiffRefIdeal.τ).loc Cert.DiffRefIdeal.main_arg2)) (m ((c.tc : Thread Cert.DiffRefIdeal.nD Cert.DiffRefIdeal.τ).loc Cert.DiffRefIdeal.main_arg3)) (m ((c.tc : Thread Cert.DiffRefIdeal.nD Cert.DiffRefIdeal.τ).loc Cert.DiffRefIdeal.main_arg4)) (m ((c.tc : Thread Cert.DiffRefIdeal.nD Cert.DiffRefIdeal.τ).loc Cert.DiffRefIdeal.main_arg5)) (m ((c.tc : Thread Cert.DiffRefIdeal.nD Cert.DiffRefIdeal.τ).loc Cert.DiffRefIdeal.main_arg6)) (m ((c.tc : Thread Cert.DiffRefIdeal.nD Cert.DiffRefIdeal.τ).loc Cert.DiffRefIdeal.main_arg7))).2.2.1 = (fun _ => 1#1)
    ∧ (Cert.Pre_finite.fn (F := Ideal) (m ((c.tc : Thread Cert.DiffRefIdeal.nD Cert.DiffRefIdeal.τ).loc Cert.DiffRefIdeal.main_arg0)) (m ((c.tc : Thread Cert.DiffRefIdeal.nD Cert.DiffRefIdeal.τ).loc Cert.DiffRefIdeal.main_arg1)) (m ((c.tc : Thread Cert.DiffRefIdeal.nD Cert.DiffRefIdeal.τ).loc Cert.DiffRefIdeal.main_arg2)) (m ((c.tc : Thread Cert.DiffRefIdeal.nD Cert.DiffRefIdeal.τ).loc Cert.DiffRefIdeal.main_arg3)) (m ((c.tc : Thread Cert.DiffRefIdeal.nD Cert.DiffRefIdeal.τ).loc Cert.DiffRefIdeal.main_arg4)) (m ((c.tc : Thread Cert.DiffRefIdeal.nD Cert.DiffRefIdeal.τ).loc Cert.DiffRefIdeal.main_arg5)) (m ((c.tc : Thread Cert.DiffRefIdeal.nD Cert.DiffRefIdeal.τ).loc Cert.DiffRefIdeal.main_arg6)) (m ((c.tc : Thread Cert.DiffRefIdeal.nD Cert.DiffRefIdeal.τ).loc Cert.DiffRefIdeal.main_arg7))).2.2.2.1 = (fun _ => 1#1)
    ∧ (Cert.Pre_finite.fn (F := Ideal) (m ((c.tc : Thread Cert.DiffRefIdeal.nD Cert.DiffRefIdeal.τ).loc Cert.DiffRefIdeal.main_arg0)) (m ((c.tc : Thread Cert.DiffRefIdeal.nD Cert.DiffRefIdeal.τ).loc Cert.DiffRefIdeal.main_arg1)) (m ((c.tc : Thread Cert.DiffRefIdeal.nD Cert.DiffRefIdeal.τ).loc Cert.DiffRefIdeal.main_arg2)) (m ((c.tc : Thread Cert.DiffRefIdeal.nD Cert.DiffRefIdeal.τ).loc Cert.DiffRefIdeal.main_arg3)) (m ((c.tc : Thread Cert.DiffRefIdeal.nD Cert.DiffRefIdeal.τ).loc Cert.DiffRefIdeal.main_arg4)) (m ((c.tc : Thread Cert.DiffRefIdeal.nD Cert.DiffRefIdeal.τ).loc Cert.DiffRefIdeal.main_arg5)) (m ((c.tc : Thread Cert.DiffRefIdeal.nD Cert.DiffRefIdeal.τ).loc Cert.DiffRefIdeal.main_arg6)) (m ((c.tc : Thread Cert.DiffRefIdeal.nD Cert.DiffRefIdeal.τ).loc Cert.DiffRefIdeal.main_arg7))).2.2.2.2.1 = (fun _ => 1#1)
    ∧ (Cert.Pre_finite.fn (F := Ideal) (m ((c.tc : Thread Cert.DiffRefIdeal.nD Cert.DiffRefIdeal.τ).loc Cert.DiffRefIdeal.main_arg0)) (m ((c.tc : Thread Cert.DiffRefIdeal.nD Cert.DiffRefIdeal.τ).loc Cert.DiffRefIdeal.main_arg1)) (m ((c.tc : Thread Cert.DiffRefIdeal.nD Cert.DiffRefIdeal.τ).loc Cert.DiffRefIdeal.main_arg2)) (m ((c.tc : Thread Cert.DiffRefIdeal.nD Cert.DiffRefIdeal.τ).loc Cert.DiffRefIdeal.main_arg3)) (m ((c.tc : Thread Cert.DiffRefIdeal.nD Cert.DiffRefIdeal.τ).loc Cert.DiffRefIdeal.main_arg4)) (m ((c.tc : Thread Cert.DiffRefIdeal.nD Cert.DiffRefIdeal.τ).loc Cert.DiffRefIdeal.main_arg5)) (m ((c.tc : Thread Cert.DiffRefIdeal.nD Cert.DiffRefIdeal.τ).loc Cert.DiffRefIdeal.main_arg6)) (m ((c.tc : Thread Cert.DiffRefIdeal.nD Cert.DiffRefIdeal.τ).loc Cert.DiffRefIdeal.main_arg7))).2.2.2.2.2.1 = (fun _ => 1#1)
    ∧ (Cert.Pre_finite.fn (F := Ideal) (m ((c.tc : Thread Cert.DiffRefIdeal.nD Cert.DiffRefIdeal.τ).loc Cert.DiffRefIdeal.main_arg0)) (m ((c.tc : Thread Cert.DiffRefIdeal.nD Cert.DiffRefIdeal.τ).loc Cert.DiffRefIdeal.main_arg1)) (m ((c.tc : Thread Cert.DiffRefIdeal.nD Cert.DiffRefIdeal.τ).loc Cert.DiffRefIdeal.main_arg2)) (m ((c.tc : Thread Cert.DiffRefIdeal.nD Cert.DiffRefIdeal.τ).loc Cert.DiffRefIdeal.main_arg3)) (m ((c.tc : Thread Cert.DiffRefIdeal.nD Cert.DiffRefIdeal.τ).loc Cert.DiffRefIdeal.main_arg4)) (m ((c.tc : Thread Cert.DiffRefIdeal.nD Cert.DiffRefIdeal.τ).loc Cert.DiffRefIdeal.main_arg5)) (m ((c.tc : Thread Cert.DiffRefIdeal.nD Cert.DiffRefIdeal.τ).loc Cert.DiffRefIdeal.main_arg6)) (m ((c.tc : Thread Cert.DiffRefIdeal.nD Cert.DiffRefIdeal.τ).loc Cert.DiffRefIdeal.main_arg7))).2.2.2.2.2.2 = (fun _ => 1#1)

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InRefIdeal (m : (ℓ : Loc Cert.InRefIdeal.nD Cert.InRefIdeal.τ Cert.InRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def quiescent_Diff [hDiff : Cert.Diff.Facts] : Prop :=
  ∀ (m : (ℓ : Loc Cert.Diff.nD Cert.Diff.τ Cert.Diff.sig) → Buf (Elt Bits) ℓ) (g : Dev Cert.Diff.nD → PrngReg), Pre_Diff m →
    θ_run (Cert.Diff.defs (F := Bits)) (onTc (τ := Cert.Diff.τ) (Cert.Diff.main (F := Bits))) ⟨m, fun _ => 0, g⟩ (fun r => (∀ c : Dev Cert.Diff.nD,
      r.2.mem ((c.tc : Thread Cert.Diff.nD Cert.Diff.τ).loc Cert.Diff.main_arg0) = m ((c.tc : Thread Cert.Diff.nD Cert.Diff.τ).loc Cert.Diff.main_arg0)
      ∧ r.2.mem ((c.tc : Thread Cert.Diff.nD Cert.Diff.τ).loc Cert.Diff.main_arg1) = m ((c.tc : Thread Cert.Diff.nD Cert.Diff.τ).loc Cert.Diff.main_arg1)
      ∧ r.2.mem ((c.tc : Thread Cert.Diff.nD Cert.Diff.τ).loc Cert.Diff.main_arg2) = m ((c.tc : Thread Cert.Diff.nD Cert.Diff.τ).loc Cert.Diff.main_arg2)
      ∧ r.2.mem ((c.tc : Thread Cert.Diff.nD Cert.Diff.τ).loc Cert.Diff.main_arg3) = m ((c.tc : Thread Cert.Diff.nD Cert.Diff.τ).loc Cert.Diff.main_arg3)
      ∧ r.2.mem ((c.tc : Thread Cert.Diff.nD Cert.Diff.τ).loc Cert.Diff.main_arg4) = m ((c.tc : Thread Cert.Diff.nD Cert.Diff.τ).loc Cert.Diff.main_arg4)
      ∧ r.2.mem ((c.tc : Thread Cert.Diff.nD Cert.Diff.τ).loc Cert.Diff.main_arg5) = m ((c.tc : Thread Cert.Diff.nD Cert.Diff.τ).loc Cert.Diff.main_arg5)
      ∧ r.2.mem ((c.tc : Thread Cert.Diff.nD Cert.Diff.τ).loc Cert.Diff.main_arg6) = m ((c.tc : Thread Cert.Diff.nD Cert.Diff.τ).loc Cert.Diff.main_arg6)
      ∧ r.2.mem ((c.tc : Thread Cert.Diff.nD Cert.Diff.τ).loc Cert.Diff.main_arg7) = m ((c.tc : Thread Cert.Diff.nD Cert.Diff.τ).loc Cert.Diff.main_arg7))
      ∧ r.2.sem = fun _ => 0)

def quiescent_DiffIdeal [hDiffIdeal : Cert.DiffIdeal.Facts] : Prop :=
  ∀ (m : (ℓ : Loc Cert.DiffIdeal.nD Cert.DiffIdeal.τ Cert.DiffIdeal.sig) → Buf (Elt Ideal) ℓ) (g : Dev Cert.DiffIdeal.nD → PrngReg), Pre_DiffIdeal m →
    θ_run (Cert.DiffIdeal.defs (F := Ideal)) (onTc (τ := Cert.DiffIdeal.τ) (Cert.DiffIdeal.main (F := Ideal))) ⟨m, fun _ => 0, g⟩ (fun r => (∀ c : Dev Cert.DiffIdeal.nD,
      r.2.mem ((c.tc : Thread Cert.DiffIdeal.nD Cert.DiffIdeal.τ).loc Cert.DiffIdeal.main_arg0) = m ((c.tc : Thread Cert.DiffIdeal.nD Cert.DiffIdeal.τ).loc Cert.DiffIdeal.main_arg0)
      ∧ r.2.mem ((c.tc : Thread Cert.DiffIdeal.nD Cert.DiffIdeal.τ).loc Cert.DiffIdeal.main_arg1) = m ((c.tc : Thread Cert.DiffIdeal.nD Cert.DiffIdeal.τ).loc Cert.DiffIdeal.main_arg1)
      ∧ r.2.mem ((c.tc : Thread Cert.DiffIdeal.nD Cert.DiffIdeal.τ).loc Cert.DiffIdeal.main_arg2) = m ((c.tc : Thread Cert.DiffIdeal.nD Cert.DiffIdeal.τ).loc Cert.DiffIdeal.main_arg2)
      ∧ r.2.mem ((c.tc : Thread Cert.DiffIdeal.nD Cert.DiffIdeal.τ).loc Cert.DiffIdeal.main_arg3) = m ((c.tc : Thread Cert.DiffIdeal.nD Cert.DiffIdeal.τ).loc Cert.DiffIdeal.main_arg3)
      ∧ r.2.mem ((c.tc : Thread Cert.DiffIdeal.nD Cert.DiffIdeal.τ).loc Cert.DiffIdeal.main_arg4) = m ((c.tc : Thread Cert.DiffIdeal.nD Cert.DiffIdeal.τ).loc Cert.DiffIdeal.main_arg4)
      ∧ r.2.mem ((c.tc : Thread Cert.DiffIdeal.nD Cert.DiffIdeal.τ).loc Cert.DiffIdeal.main_arg5) = m ((c.tc : Thread Cert.DiffIdeal.nD Cert.DiffIdeal.τ).loc Cert.DiffIdeal.main_arg5)
      ∧ r.2.mem ((c.tc : Thread Cert.DiffIdeal.nD Cert.DiffIdeal.τ).loc Cert.DiffIdeal.main_arg6) = m ((c.tc : Thread Cert.DiffIdeal.nD Cert.DiffIdeal.τ).loc Cert.DiffIdeal.main_arg6)
      ∧ r.2.mem ((c.tc : Thread Cert.DiffIdeal.nD Cert.DiffIdeal.τ).loc Cert.DiffIdeal.main_arg7) = m ((c.tc : Thread Cert.DiffIdeal.nD Cert.DiffIdeal.τ).loc Cert.DiffIdeal.main_arg7))
      ∧ r.2.sem = fun _ => 0)

def quiescent_DiffIdeal_pre_finite [hDiffIdeal : Cert.DiffIdeal.Facts] [hPre_finite : Cert.Pre_finite.Facts] : Prop :=
  ∀ (m : (ℓ : Loc Cert.DiffIdeal.nD Cert.DiffIdeal.τ Cert.DiffIdeal.sig) → Buf (Elt Ideal) ℓ) (g : Dev Cert.DiffIdeal.nD → PrngReg), Pre_DiffIdeal_finite m →
    θ_run (Cert.DiffIdeal.defs (F := Ideal)) (onTc (τ := Cert.DiffIdeal.τ) (Cert.DiffIdeal.main (F := Ideal))) ⟨m, fun _ => 0, g⟩ (fun r => (∀ c : Dev Cert.DiffIdeal.nD,
      r.2.mem ((c.tc : Thread Cert.DiffIdeal.nD Cert.DiffIdeal.τ).loc Cert.DiffIdeal.main_arg0) = m ((c.tc : Thread Cert.DiffIdeal.nD Cert.DiffIdeal.τ).loc Cert.DiffIdeal.main_arg0)
      ∧ r.2.mem ((c.tc : Thread Cert.DiffIdeal.nD Cert.DiffIdeal.τ).loc Cert.DiffIdeal.main_arg1) = m ((c.tc : Thread Cert.DiffIdeal.nD Cert.DiffIdeal.τ).loc Cert.DiffIdeal.main_arg1)
      ∧ r.2.mem ((c.tc : Thread Cert.DiffIdeal.nD Cert.DiffIdeal.τ).loc Cert.DiffIdeal.main_arg2) = m ((c.tc : Thread Cert.DiffIdeal.nD Cert.DiffIdeal.τ).loc Cert.DiffIdeal.main_arg2)
      ∧ r.2.mem ((c.tc : Thread Cert.DiffIdeal.nD Cert.DiffIdeal.τ).loc Cert.DiffIdeal.main_arg3) = m ((c.tc : Thread Cert.DiffIdeal.nD Cert.DiffIdeal.τ).loc Cert.DiffIdeal.main_arg3)
      ∧ r.2.mem ((c.tc : Thread Cert.DiffIdeal.nD Cert.DiffIdeal.τ).loc Cert.DiffIdeal.main_arg4) = m ((c.tc : Thread Cert.DiffIdeal.nD Cert.DiffIdeal.τ).loc Cert.DiffIdeal.main_arg4)
      ∧ r.2.mem ((c.tc : Thread Cert.DiffIdeal.nD Cert.DiffIdeal.τ).loc Cert.DiffIdeal.main_arg5) = m ((c.tc : Thread Cert.DiffIdeal.nD Cert.DiffIdeal.τ).loc Cert.DiffIdeal.main_arg5)
      ∧ r.2.mem ((c.tc : Thread Cert.DiffIdeal.nD Cert.DiffIdeal.τ).loc Cert.DiffIdeal.main_arg6) = m ((c.tc : Thread Cert.DiffIdeal.nD Cert.DiffIdeal.τ).loc Cert.DiffIdeal.main_arg6)
      ∧ r.2.mem ((c.tc : Thread Cert.DiffIdeal.nD Cert.DiffIdeal.τ).loc Cert.DiffIdeal.main_arg7) = m ((c.tc : Thread Cert.DiffIdeal.nD Cert.DiffIdeal.τ).loc Cert.DiffIdeal.main_arg7))
      ∧ r.2.sem = fun _ => 0)

def quiescent_DiffRefIdeal [hDiffRefIdeal : Cert.DiffRefIdeal.Facts] : Prop :=
  ∀ (m : (ℓ : Loc Cert.DiffRefIdeal.nD Cert.DiffRefIdeal.τ Cert.DiffRefIdeal.sig) → Buf (Elt Ideal) ℓ) (g : Dev Cert.DiffRefIdeal.nD → PrngReg), Pre_DiffRefIdeal m →
    θ_run (Cert.DiffRefIdeal.defs (F := Ideal)) (onTc (τ := Cert.DiffRefIdeal.τ) (Cert.DiffRefIdeal.main (F := Ideal))) ⟨m, fun _ => 0, g⟩ (fun r => (∀ c : Dev Cert.DiffRefIdeal.nD,
      r.2.mem ((c.tc : Thread Cert.DiffRefIdeal.nD Cert.DiffRefIdeal.τ).loc Cert.DiffRefIdeal.main_arg0) = m ((c.tc : Thread Cert.DiffRefIdeal.nD Cert.DiffRefIdeal.τ).loc Cert.DiffRefIdeal.main_arg0)
      ∧ r.2.mem ((c.tc : Thread Cert.DiffRefIdeal.nD Cert.DiffRefIdeal.τ).loc Cert.DiffRefIdeal.main_arg1) = m ((c.tc : Thread Cert.DiffRefIdeal.nD Cert.DiffRefIdeal.τ).loc Cert.DiffRefIdeal.main_arg1)
      ∧ r.2.mem ((c.tc : Thread Cert.DiffRefIdeal.nD Cert.DiffRefIdeal.τ).loc Cert.DiffRefIdeal.main_arg2) = m ((c.tc : Thread Cert.DiffRefIdeal.nD Cert.DiffRefIdeal.τ).loc Cert.DiffRefIdeal.main_arg2)
      ∧ r.2.mem ((c.tc : Thread Cert.DiffRefIdeal.nD Cert.DiffRefIdeal.τ).loc Cert.DiffRefIdeal.main_arg3) = m ((c.tc : Thread Cert.DiffRefIdeal.nD Cert.DiffRefIdeal.τ).loc Cert.DiffRefIdeal.main_arg3)
      ∧ r.2.mem ((c.tc : Thread Cert.DiffRefIdeal.nD Cert.DiffRefIdeal.τ).loc Cert.DiffRefIdeal.main_arg4) = m ((c.tc : Thread Cert.DiffRefIdeal.nD Cert.DiffRefIdeal.τ).loc Cert.DiffRefIdeal.main_arg4)
      ∧ r.2.mem ((c.tc : Thread Cert.DiffRefIdeal.nD Cert.DiffRefIdeal.τ).loc Cert.DiffRefIdeal.main_arg5) = m ((c.tc : Thread Cert.DiffRefIdeal.nD Cert.DiffRefIdeal.τ).loc Cert.DiffRefIdeal.main_arg5)
      ∧ r.2.mem ((c.tc : Thread Cert.DiffRefIdeal.nD Cert.DiffRefIdeal.τ).loc Cert.DiffRefIdeal.main_arg6) = m ((c.tc : Thread Cert.DiffRefIdeal.nD Cert.DiffRefIdeal.τ).loc Cert.DiffRefIdeal.main_arg6)
      ∧ r.2.mem ((c.tc : Thread Cert.DiffRefIdeal.nD Cert.DiffRefIdeal.τ).loc Cert.DiffRefIdeal.main_arg7) = m ((c.tc : Thread Cert.DiffRefIdeal.nD Cert.DiffRefIdeal.τ).loc Cert.DiffRefIdeal.main_arg7))
      ∧ r.2.sem = fun _ => 0)

def quiescent_DiffRefIdeal_pre_finite [hDiffRefIdeal : Cert.DiffRefIdeal.Facts] [hPre_finite : Cert.Pre_finite.Facts] : Prop :=
  ∀ (m : (ℓ : Loc Cert.DiffRefIdeal.nD Cert.DiffRefIdeal.τ Cert.DiffRefIdeal.sig) → Buf (Elt Ideal) ℓ) (g : Dev Cert.DiffRefIdeal.nD → PrngReg), Pre_DiffRefIdeal_finite m →
    θ_run (Cert.DiffRefIdeal.defs (F := Ideal)) (onTc (τ := Cert.DiffRefIdeal.τ) (Cert.DiffRefIdeal.main (F := Ideal))) ⟨m, fun _ => 0, g⟩ (fun r => (∀ c : Dev Cert.DiffRefIdeal.nD,
      r.2.mem ((c.tc : Thread Cert.DiffRefIdeal.nD Cert.DiffRefIdeal.τ).loc Cert.DiffRefIdeal.main_arg0) = m ((c.tc : Thread Cert.DiffRefIdeal.nD Cert.DiffRefIdeal.τ).loc Cert.DiffRefIdeal.main_arg0)
      ∧ r.2.mem ((c.tc : Thread Cert.DiffRefIdeal.nD Cert.DiffRefIdeal.τ).loc Cert.DiffRefIdeal.main_arg1) = m ((c.tc : Thread Cert.DiffRefIdeal.nD Cert.DiffRefIdeal.τ).loc Cert.DiffRefIdeal.main_arg1)
      ∧ r.2.mem ((c.tc : Thread Cert.DiffRefIdeal.nD Cert.DiffRefIdeal.τ).loc Cert.DiffRefIdeal.main_arg2) = m ((c.tc : Thread Cert.DiffRefIdeal.nD Cert.DiffRefIdeal.τ).loc Cert.DiffRefIdeal.main_arg2)
      ∧ r.2.mem ((c.tc : Thread Cert.DiffRefIdeal.nD Cert.DiffRefIdeal.τ).loc Cert.DiffRefIdeal.main_arg3) = m ((c.tc : Thread Cert.DiffRefIdeal.nD Cert.DiffRefIdeal.τ).loc Cert.DiffRefIdeal.main_arg3)
      ∧ r.2.mem ((c.tc : Thread Cert.DiffRefIdeal.nD Cert.DiffRefIdeal.τ).loc Cert.DiffRefIdeal.main_arg4) = m ((c.tc : Thread Cert.DiffRefIdeal.nD Cert.DiffRefIdeal.τ).loc Cert.DiffRefIdeal.main_arg4)
      ∧ r.2.mem ((c.tc : Thread Cert.DiffRefIdeal.nD Cert.DiffRefIdeal.τ).loc Cert.DiffRefIdeal.main_arg5) = m ((c.tc : Thread Cert.DiffRefIdeal.nD Cert.DiffRefIdeal.τ).loc Cert.DiffRefIdeal.main_arg5)
      ∧ r.2.mem ((c.tc : Thread Cert.DiffRefIdeal.nD Cert.DiffRefIdeal.τ).loc Cert.DiffRefIdeal.main_arg6) = m ((c.tc : Thread Cert.DiffRefIdeal.nD Cert.DiffRefIdeal.τ).loc Cert.DiffRefIdeal.main_arg6)
      ∧ r.2.mem ((c.tc : Thread Cert.DiffRefIdeal.nD Cert.DiffRefIdeal.τ).loc Cert.DiffRefIdeal.main_arg7) = m ((c.tc : Thread Cert.DiffRefIdeal.nD Cert.DiffRefIdeal.τ).loc Cert.DiffRefIdeal.main_arg7))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ r.2.sem = fun _ => 0)

def quiescent_InRefIdeal [hInRefIdeal : Cert.InRefIdeal.Facts] : Prop :=
  ∀ (m : (ℓ : Loc Cert.InRefIdeal.nD Cert.InRefIdeal.τ Cert.InRefIdeal.sig) → Buf (Elt Ideal) ℓ) (g : Dev Cert.InRefIdeal.nD → PrngReg), Pre_InRefIdeal m →
    θ_run (Cert.InRefIdeal.defs (F := Ideal)) (onTc (τ := Cert.InRefIdeal.τ) (Cert.InRefIdeal.main (F := Ideal))) ⟨m, fun _ => 0, g⟩ (fun r => (∀ c : Dev Cert.InRefIdeal.nD,
      r.2.mem ((c.tc : Thread Cert.InRefIdeal.nD Cert.InRefIdeal.τ).loc Cert.InRefIdeal.main_arg0) = m ((c.tc : Thread Cert.InRefIdeal.nD Cert.InRefIdeal.τ).loc Cert.InRefIdeal.main_arg0)
      ∧ r.2.mem ((c.tc : Thread Cert.InRefIdeal.nD Cert.InRefIdeal.τ).loc Cert.InRefIdeal.main_arg1) = m ((c.tc : Thread Cert.InRefIdeal.nD Cert.InRefIdeal.τ).loc Cert.InRefIdeal.main_arg1)
      ∧ r.2.mem ((c.tc : Thread Cert.InRefIdeal.nD Cert.InRefIdeal.τ).loc Cert.InRefIdeal.main_arg2) = m ((c.tc : Thread Cert.InRefIdeal.nD Cert.InRefIdeal.τ).loc Cert.InRefIdeal.main_arg2))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8)
      ∧ r.2.mem ((c.tc : Thread Cert.MergeRefIdeal.nD Cert.MergeRefIdeal.τ).loc Cert.MergeRefIdeal.main_arg9) = m ((c.tc : Thread Cert.MergeRefIdeal.nD Cert.MergeRefIdeal.τ).loc Cert.MergeRefIdeal.main_arg9))
      ∧ r.2.sem = fun _ => 0)

def preserves_Diff_DiffIdeal : Prop :=
  IdealRules.named_const.Statement Cert.DiffIdeal.κ "mask" .f32 0xF149F2CA#32 ⊥

def algebraic_DiffIdeal_DiffRefIdeal_pre_finite [hDiffIdeal : Cert.DiffIdeal.Facts] [hDiffRefIdeal : Cert.DiffRefIdeal.Facts] [hPre_finite : Cert.Pre_finite.Facts] : Prop :=
  ∀ (m : (ℓ : Loc Cert.DiffIdeal.nD Cert.DiffIdeal.τ Cert.DiffIdeal.sig) → Buf (Elt Ideal) ℓ) (g : Dev Cert.DiffIdeal.nD → PrngReg)
    (m' : (ℓ : Loc Cert.DiffRefIdeal.nD Cert.DiffRefIdeal.τ Cert.DiffRefIdeal.sig) → Buf (Elt Ideal) ℓ) (g' : Dev Cert.DiffRefIdeal.nD → PrngReg), Pre_DiffIdeal_finite m →
    (∀ c : Dev Cert.DiffIdeal.nD,
      m' ((c.tc : Thread Cert.DiffRefIdeal.nD Cert.DiffRefIdeal.τ).loc Cert.DiffRefIdeal.main_arg0) = m ((c.tc : Thread Cert.DiffIdeal.nD Cert.DiffIdeal.τ).loc Cert.DiffIdeal.main_arg0)
      ∧ m' ((c.tc : Thread Cert.DiffRefIdeal.nD Cert.DiffRefIdeal.τ).loc Cert.DiffRefIdeal.main_arg1) = m ((c.tc : Thread Cert.DiffIdeal.nD Cert.DiffIdeal.τ).loc Cert.DiffIdeal.main_arg1)
      ∧ m' ((c.tc : Thread Cert.DiffRefIdeal.nD Cert.DiffRefIdeal.τ).loc Cert.DiffRefIdeal.main_arg2) = m ((c.tc : Thread Cert.DiffIdeal.nD Cert.DiffIdeal.τ).loc Cert.DiffIdeal.main_arg2)
      ∧ m' ((c.tc : Thread Cert.DiffRefIdeal.nD Cert.DiffRefIdeal.τ).loc Cert.DiffRefIdeal.main_arg3) = m ((c.tc : Thread Cert.DiffIdeal.nD Cert.DiffIdeal.τ).loc Cert.DiffIdeal.main_arg3)
      ∧ m' ((c.tc : Thread Cert.DiffRefIdeal.nD Cert.DiffRefIdeal.τ).loc Cert.DiffRefIdeal.main_arg4) = m ((c.tc : Thread Cert.DiffIdeal.nD Cert.DiffIdeal.τ).loc Cert.DiffIdeal.main_arg4)
      ∧ m' ((c.tc : Thread Cert.DiffRefIdeal.nD Cert.DiffRefIdeal.τ).loc Cert.DiffRefIdeal.main_arg5) = m ((c.tc : Thread Cert.DiffIdeal.nD Cert.DiffIdeal.τ).loc Cert.DiffIdeal.main_arg5)
      ∧ m' ((c.tc : Thread Cert.DiffRefIdeal.nD Cert.DiffRefIdeal.τ).loc Cert.DiffRefIdeal.main_arg6) = m ((c.tc : Thread Cert.DiffIdeal.nD Cert.DiffIdeal.τ).loc Cert.DiffIdeal.main_arg6)
      ∧ m' ((c.tc : Thread Cert.DiffRefIdeal.nD Cert.DiffRefIdeal.τ).loc Cert.DiffRefIdeal.main_arg7) = m ((c.tc : Thread Cert.DiffIdeal.nD Cert.DiffIdeal.τ).loc Cert.DiffIdeal.main_arg7)) →
    ∃ (v0 : (c : Dev Cert.DiffIdeal.nD) → Buf (Elt Ideal) ((c.tc : Thread Cert.DiffIdeal.nD Cert.DiffIdeal.τ).loc Cert.DiffIdeal.main_v15)),
      θ_run (Cert.DiffIdeal.defs (F := Ideal)) (onTc (τ := Cert.DiffIdeal.τ) (Cert.DiffIdeal.main (F := Ideal))) ⟨m, fun _ => 0, g⟩ (fun r => ∀ c : Dev Cert.DiffIdeal.nD,
          r.2.mem ((c.tc : Thread Cert.DiffIdeal.nD Cert.DiffIdeal.τ).loc Cert.DiffIdeal.main_v15) = v0 c
          ∧ r.2.mem ((c.tc : Thread Cert.DiffIdeal.nD Cert.DiffIdeal.τ).loc Cert.DiffIdeal.main_arg0) = m ((c.tc : Thread Cert.DiffIdeal.nD Cert.DiffIdeal.τ).loc Cert.DiffIdeal.main_arg0)
          ∧ r.2.mem ((c.tc : Thread Cert.DiffIdeal.nD Cert.DiffIdeal.τ).loc Cert.DiffIdeal.main_arg1) = m ((c.tc : Thread Cert.DiffIdeal.nD Cert.DiffIdeal.τ).loc Cert.DiffIdeal.main_arg1)
          ∧ r.2.mem ((c.tc : Thread Cert.DiffIdeal.nD Cert.DiffIdeal.τ).loc Cert.DiffIdeal.main_arg2) = m ((c.tc : Thread Cert.DiffIdeal.nD Cert.DiffIdeal.τ).loc Cert.DiffIdeal.main_arg2)
          ∧ r.2.mem ((c.tc : Thread Cert.DiffIdeal.nD Cert.DiffIdeal.τ).loc Cert.DiffIdeal.main_arg3) = m ((c.tc : Thread Cert.DiffIdeal.nD Cert.DiffIdeal.τ).loc Cert.DiffIdeal.main_arg3)
          ∧ r.2.mem ((c.tc : Thread Cert.DiffIdeal.nD Cert.DiffIdeal.τ).loc Cert.DiffIdeal.main_arg4) = m ((c.tc : Thread Cert.DiffIdeal.nD Cert.DiffIdeal.τ).loc Cert.DiffIdeal.main_arg4)
          ∧ r.2.mem ((c.tc : Thread Cert.DiffIdeal.nD Cert.DiffIdeal.τ).loc Cert.DiffIdeal.main_arg5) = m ((c.tc : Thread Cert.DiffIdeal.nD Cert.DiffIdeal.τ).loc Cert.DiffIdeal.main_arg5)
          ∧ r.2.mem ((c.tc : Thread Cert.DiffIdeal.nD Cert.DiffIdeal.τ).loc Cert.DiffIdeal.main_arg6) = m ((c.tc : Thread Cert.DiffIdeal.nD Cert.DiffIdeal.τ).loc Cert.DiffIdeal.main_arg6)
          ∧ r.2.mem ((c.tc : Thread Cert.DiffIdeal.nD Cert.DiffIdeal.τ).loc Cert.DiffIdeal.main_arg7) = m ((c.tc : Thread Cert.DiffIdeal.nD Cert.DiffIdeal.τ).loc Cert.DiffIdeal.main_arg7))
      ∧ θ_run (Cert.DiffRefIdeal.defs (F := Ideal)) (onTc (τ := Cert.DiffRefIdeal.τ) (Cert.DiffRefIdeal.main (F := Ideal))) ⟨m', fun _ => 0, g'⟩ (fun r => ∀ c : Dev Cert.DiffRefIdeal.nD,
          r.2.mem ((c.tc : Thread Cert.DiffRefIdeal.nD Cert.DiffRefIdeal.τ).loc Cert.DiffRefIdeal.main_v98) = v0 c
          ∧ r.2.mem ((c.tc : Thread Cert.DiffRefIdeal.nD Cert.DiffRefIdeal.τ).loc Cert.DiffRefIdeal.main_arg0) = m' ((c.tc : Thread Cert.DiffRefIdeal.nD Cert.DiffRefIdeal.τ).loc Cert.DiffRefIdeal.main_arg0)
          ∧ r.2.mem ((c.tc : Thread Cert.DiffRefIdeal.nD Cert.DiffRefIdeal.τ).loc Cert.DiffRefIdeal.main_arg1) = m' ((c.tc : Thread Cert.DiffRefIdeal.nD Cert.DiffRefIdeal.τ).loc Cert.DiffRefIdeal.main_arg1)
          ∧ r.2.mem ((c.tc : Thread Cert.DiffRefIdeal.nD Cert.DiffRefIdeal.τ).loc Cert.DiffRefIdeal.main_arg2) = m' ((c.tc : Thread Cert.DiffRefIdeal.nD Cert.DiffRefIdeal.τ).loc Cert.DiffRefIdeal.main_arg2)
          ∧ r.2.mem ((c.tc : Thread Cert.DiffRefIdeal.nD Cert.DiffRefIdeal.τ).loc Cert.DiffRefIdeal.main_arg3) = m' ((c.tc : Thread Cert.DiffRefIdeal.nD Cert.DiffRefIdeal.τ).loc Cert.DiffRefIdeal.main_arg3)
          ∧ r.2.mem ((c.tc : Thread Cert.DiffRefIdeal.nD Cert.DiffRefIdeal.τ).loc Cert.DiffRefIdeal.main_arg4) = m' ((c.tc : Thread Cert.DiffRefIdeal.nD Cert.DiffRefIdeal.τ).loc Cert.DiffRefIdeal.main_arg4)
          ∧ r.2.mem ((c.tc : Thread Cert.DiffRefIdeal.nD Cert.DiffRefIdeal.τ).loc Cert.DiffRefIdeal.main_arg5) = m' ((c.tc : Thread Cert.DiffRefIdeal.nD Cert.DiffRefIdeal.τ).loc Cert.DiffRefIdeal.main_arg5)
          ∧ r.2.mem ((c.tc : Thread Cert.DiffRefIdeal.nD Cert.DiffRefIdeal.τ).loc Cert.DiffRefIdeal.main_arg6) = m' ((c.tc : Thread Cert.DiffRefIdeal.nD Cert.DiffRefIdeal.τ).loc Cert.DiffRefIdeal.main_arg6)
          ∧ r.2.mem ((c.tc : Thread Cert.DiffRefIdeal.nD Cert.DiffRefIdeal.τ).loc Cert.DiffRefIdeal.main_arg7) = m' ((c.tc : Thread Cert.DiffRefIdeal.nD Cert.DiffRefIdeal.τ).loc Cert.DiffRefIdeal.main_arg7))

def preserves_InProj_InProjIdeal : Prop :=
  True

def algebraic_InProjIdeal_InRefIdeal [hInProjIdeal : Cert.InProjIdeal.Facts] [hInRefIdeal : Cert.InRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InRefIdeal.nD Cert.InRefIdeal.τ Cert.InRefIdeal.sig) → Buf (Elt Ideal) ℓ) (g' : Dev Cert.InRefIdeal.nD → PrngReg), Pre_InProjIdeal m →
    (∀ c : Dev Cert.InProjIdeal.nD,
      m' ((c.tc : Thread Cert.InRefIdeal.nD Cert.InRefIdeal.τ).loc Cert.InRefIdeal.main_arg0) = m ((c.tc : Thread Cert.InProjIdeal.nD Cert.InProjIdeal.τ).loc Cert.InProjIdeal.main_arg0)
      ∧ m' ((c.tc : Thread Cert.InRefIdeal.nD Cert.InRefIdeal.τ).loc Cert.InRefIdeal.main_arg1) = m ((c.tc : Thread Cert.InProjIdeal.nD Cert.InProjIdeal.τ).loc Cert.InProjIdeal.main_arg1)
      ∧ m' ((c.tc : Thread Cert.InRefIdeal.nD Cert.InRefIdeal.τ).loc Cert.InRefIdeal.main_arg2) = m ((c.tc : Thread Cert.InProjIdeal.nD Cert.InProjIdeal.τ).loc Cert.InProjIdeal.main_arg2)) →
    ∃ (v0 : (c : Dev Cert.InProjIdeal.nD) → Buf (Elt Ideal) ((c.tc : Thread Cert.InProjIdeal.nD Cert.InProjIdeal.τ).loc Cert.InProjIdeal.main_v7_0)) (v1 : (c : Dev Cert.InProjIdeal.nD) → Buf (Elt Ideal) ((c.tc : Thread Cert.InProjIdeal.nD Cert.InProjIdeal.τ).loc Cert.InProjIdeal.main_v7_1)) (v2 : (c : Dev Cert.InProjIdeal.nD) → Buf (Elt Ideal) ((c.tc : Thread Cert.InProjIdeal.nD Cert.InProjIdeal.τ).loc Cert.InProjIdeal.main_v7_2)) (v3 : (c : Dev Cert.InProjIdeal.nD) → Buf (Elt Ideal) ((c.tc : Thread Cert.InProjIdeal.nD Cert.InProjIdeal.τ).loc Cert.InProjIdeal.main_v7_3)) (v4 : (c : Dev Cert.InProjIdeal.nD) → Buf (Elt Ideal) ((c.tc : Thread Cert.InProjIdeal.nD Cert.InProjIdeal.τ).loc Cert.InProjIdeal.main_v7_4)) (v5 : (c : Dev Cert.InProjIdeal.nD) → Buf (Elt Ideal) ((c.tc : Thread Cert.InProjIdeal.nD Cert.InProjIdeal.τ).loc Cert.InProjIdeal.main_v7_5)) (v6 : (c : Dev Cert.InProjIdeal.nD) → Buf (Elt Ideal) ((c.tc : Thread Cert.InProjIdeal.nD Cert.InProjIdeal.τ).loc Cert.InProjIdeal.main_v7_6)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v7_0) = v0 c
          ∧ r.2.mem ((c.tc : Thread Cert.InProjIdeal.nD Cert.InProjIdeal.τ).loc Cert.InProjIdeal.main_v7_1) = v1 c
          ∧ r.2.mem ((c.tc : Thread Cert.InProjIdeal.nD Cert.InProjIdeal.τ).loc Cert.InProjIdeal.main_v7_2) = v2 c
          ∧ r.2.mem ((c.tc : Thread Cert.InProjIdeal.nD Cert.InProjIdeal.τ).loc Cert.InProjIdeal.main_v7_3) = v3 c
          ∧ r.2.mem ((c.tc : Thread Cert.InProjIdeal.nD Cert.InProjIdeal.τ).loc Cert.InProjIdeal.main_v7_4) = v4 c
          ∧ r.2.mem ((c.tc : Thread Cert.InProjIdeal.nD Cert.InProjIdeal.τ).loc Cert.InProjIdeal.main_v7_5) = v5 c
          ∧ r.2.mem ((c.tc : Thread Cert.InProjIdeal.nD Cert.InProjIdeal.τ).loc Cert.InProjIdeal.main_v7_6) = v6 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ θ_run (Cert.InRefIdeal.defs (F := Ideal)) (onTc (τ := Cert.InRefIdeal.τ) (Cert.InRefIdeal.main (F := Ideal))) ⟨m', fun _ => 0, g'⟩ (fun r => ∀ c : Dev Cert.InRefIdeal.nD,
          r.2.mem ((c.tc : Thread Cert.InRefIdeal.nD Cert.InRefIdeal.τ).loc Cert.InRefIdeal.main_v26) = v0 c
          ∧ r.2.mem ((c.tc : Thread Cert.InRefIdeal.nD Cert.InRefIdeal.τ).loc Cert.InRefIdeal.main_v28) = v1 c
          ∧ r.2.mem ((c.tc : Thread Cert.InRefIdeal.nD Cert.InRefIdeal.τ).loc Cert.InRefIdeal.main_v31) = v2 c
          ∧ r.2.mem ((c.tc : Thread Cert.InRefIdeal.nD Cert.InRefIdeal.τ).loc Cert.InRefIdeal.main_v35) = v3 c
          ∧ r.2.mem ((c.tc : Thread Cert.InRefIdeal.nD Cert.InRefIdeal.τ).loc Cert.InRefIdeal.main_v37) = v4 c
          ∧ r.2.mem ((c.tc : Thread Cert.InRefIdeal.nD Cert.InRefIdeal.τ).loc Cert.InRefIdeal.main_v39) = v5 c
          ∧ r.2.mem ((c.tc : Thread Cert.InRefIdeal.nD Cert.InRefIdeal.τ).loc Cert.InRefIdeal.main_v40) = v6 c
          ∧ r.2.mem ((c.tc : Thread Cert.InRefIdeal.nD Cert.InRefIdeal.τ).loc Cert.InRefIdeal.main_arg0) = m' ((c.tc : Thread Cert.InRefIdeal.nD Cert.InRefIdeal.τ).loc Cert.InRefIdeal.main_arg0)
          ∧ r.2.mem ((c.tc : Thread Cert.InRefIdeal.nD Cert.InRefIdeal.τ).loc Cert.InRefIdeal.main_arg1) = m' ((c.tc : Thread Cert.InRefIdeal.nD Cert.InRefIdeal.τ).loc Cert.InRefIdeal.main_arg1)
          ∧ r.2.mem ((c.tc : Thread Cert.InRefIdeal.nD Cert.InRefIdeal.τ).loc Cert.InRefIdeal.main_arg2) = m' ((c.tc : Thread Cert.InRefIdeal.nD Cert.InRefIdeal.τ).loc Cert.InRefIdeal.main_arg2))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)
      ∧ m' ((c.tc : Thread Cert.MergeRefIdeal.nD Cert.MergeRefIdeal.τ).loc Cert.MergeRefIdeal.main_arg9) = m ((c.tc : Thread Cert.MergeIdeal.nD Cert.MergeIdeal.τ).loc Cert.MergeIdeal.main_arg9)) →
    ∃ (v0 : (c : Dev Cert.MergeIdeal.nD) → Buf (Elt Ideal) ((c.tc : Thread Cert.MergeIdeal.nD Cert.MergeIdeal.τ).loc Cert.MergeIdeal.main_v18_0)) (v1 : (c : Dev Cert.MergeIdeal.nD) → Buf (Elt Ideal) ((c.tc : Thread Cert.MergeIdeal.nD Cert.MergeIdeal.τ).loc Cert.MergeIdeal.main_v18_1)) (v2 : (c : Dev Cert.MergeIdeal.nD) → Buf (Elt Ideal) ((c.tc : Thread Cert.MergeIdeal.nD Cert.MergeIdeal.τ).loc Cert.MergeIdeal.main_v18_2)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v18_0) = v0 c
          ∧ r.2.mem ((c.tc : Thread Cert.MergeIdeal.nD Cert.MergeIdeal.τ).loc Cert.MergeIdeal.main_v18_1) = v1 c
          ∧ r.2.mem ((c.tc : Thread Cert.MergeIdeal.nD Cert.MergeIdeal.τ).loc Cert.MergeIdeal.main_v18_2) = v2 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v48) = v0 c
          ∧ r.2.mem ((c.tc : Thread Cert.MergeRefIdeal.nD Cert.MergeRefIdeal.τ).loc Cert.MergeRefIdeal.main_v50) = v1 c
          ∧ r.2.mem ((c.tc : Thread Cert.MergeRefIdeal.nD Cert.MergeRefIdeal.τ).loc Cert.MergeRefIdeal.main_v54) = v2 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8)
          ∧ r.2.mem ((c.tc : Thread Cert.MergeRefIdeal.nD Cert.MergeRefIdeal.τ).loc Cert.MergeRefIdeal.main_arg9) = m' ((c.tc : Thread Cert.MergeRefIdeal.nD Cert.MergeRefIdeal.τ).loc Cert.MergeRefIdeal.main_arg9))

def Claim : Prop :=
  ∃ (hDiff : Cert.Diff.Facts) (hDiffIdeal : Cert.DiffIdeal.Facts) (hDiffRefIdeal : Cert.DiffRefIdeal.Facts) (hInProj : Cert.InProj.Facts) (hInProjIdeal : Cert.InProjIdeal.Facts) (hInRefIdeal : Cert.InRefIdeal.Facts) (hMerge : Cert.Merge.Facts) (hMergeIdeal : Cert.MergeIdeal.Facts) (hMergeRefIdeal : Cert.MergeRefIdeal.Facts) (hPre_finite : Cert.Pre_finite.Facts),
    quiescent_Diff (hDiff := hDiff)
    ∧ quiescent_DiffIdeal (hDiffIdeal := hDiffIdeal)
    ∧ quiescent_DiffIdeal_pre_finite (hDiffIdeal := hDiffIdeal) (hPre_finite := hPre_finite)
    ∧ quiescent_DiffRefIdeal (hDiffRefIdeal := hDiffRefIdeal)
    ∧ quiescent_DiffRefIdeal_pre_finite (hDiffRefIdeal := hDiffRefIdeal) (hPre_finite := hPre_finite)
    ∧ quiescent_InProj (hInProj := hInProj)
    ∧ quiescent_InProjIdeal (hInProjIdeal := hInProjIdeal)
    ∧ quiescent_InRefIdeal (hInRefIdeal := hInRefIdeal)
    ∧ quiescent_Merge (hMerge := hMerge)
    ∧ quiescent_MergeIdeal (hMergeIdeal := hMergeIdeal)
    ∧ quiescent_MergeRefIdeal (hMergeRefIdeal := hMergeRefIdeal)
    ∧ preserves_Diff_DiffIdeal
    ∧ algebraic_DiffIdeal_DiffRefIdeal_pre_finite (hDiffIdeal := hDiffIdeal) (hDiffRefIdeal := hDiffRefIdeal) (hPre_finite := hPre_finite)
    ∧ preserves_InProj_InProjIdeal
    ∧ algebraic_InProjIdeal_InRefIdeal (hInProjIdeal := hInProjIdeal) (hInRefIdeal := hInRefIdeal)
    ∧ preserves_Merge_MergeIdeal
    ∧ algebraic_MergeIdeal_MergeRefIdeal (hMergeIdeal := hMergeIdeal) (hMergeRefIdeal := hMergeRefIdeal)
-- ==== Pre_finite.lean ====
abbrev S2x8192x8x2x64 : Shape := ⟨5, ![2, 8192, 8, 2, 64]⟩
abbrev S2x8192x8x128 : Shape := ⟨4, ![2, 8192, 8, 128]⟩
abbrev S64 : Shape := ⟨1, ![64]⟩
abbrev S128 : Shape := ⟨1, ![128]⟩
abbrev S_ : Shape := ⟨0, ![]⟩

class Facts : Prop where
  bcast_S_S2x8192x8x2x64 : S_.BroadcastsInDim S2x8192x8x2x64 (![] : Fin 0 → Fin S2x8192x8x2x64.rank)
  bcast_S_S2x8192x8x128 : S_.BroadcastsInDim S2x8192x8x128 (![] : Fin 0 → Fin S2x8192x8x128.rank)
  bcast_S_S64 : S_.BroadcastsInDim S64 (![] : Fin 0 → Fin S64.rank)

variable [Facts]

def fn_part1 {F : FTy → Type} [FloatOps F] (main_arg6 : FVec F S64 .f32) (main_v2 : IVec S2x8192x8x2x64 1) (main_v5 : IVec S2x8192x8x2x64 1) (main_v8 : IVec S2x8192x8x128 1) (main_v11 : IVec S64 1) (main_v14 : IVec S64 1) (main_v17 : IVec S64 1) : IVec S2x8192x8x2x64 1 × IVec S2x8192x8x2x64 1 × IVec S2x8192x8x128 1 × IVec S64 1 × IVec S64 1 × IVec S64 1 × IVec S64 1 :=
  let main_v18 : FVec F S64 .f32 := Host.absf main_arg6
  let main_cst_5 : FVec F S_ .f32 := constant S_ .f32 0x7F800000#32
  let main_v19 : FVec F S64 .f32 := broadcastInDim S64 ![] bcast_S_S64 main_cst_5
  let main_v20 : IVec S64 1 := cmpf .olt main_v18 main_v19
  (main_v2, main_v5, main_v8, main_v11, main_v14, main_v17, main_v20)

def fn {F : FTy → Type} [FloatOps F] (main_arg0 : FVec F S2x8192x8x2x64 .f32) (main_arg1 : FVec F S2x8192x8x2x64 .f32) (main_arg2 : FVec F S2x8192x8x128 .f32) (main_arg3 : FVec F S64 .f32) (main_arg4 : FVec F S64 .f32) (main_arg5 : FVec F S64 .f32) (main_arg6 : FVec F S64 .f32) (main_arg7 : FVec F S128 .f32) : IVec S2x8192x8x2x64 1 × IVec S2x8192x8x2x64 1 × IVec S2x8192x8x128 1 × IVec S64 1 × IVec S64 1 × IVec S64 1 × IVec S64 1 :=
  let main_v0 : FVec F S2x8192x8x2x64 .f32 := Host.absf main_arg0
  let main_cst : FVec F S_ .f32 := constant S_ .f32 0x7F800000#32
  let main_v1 : FVec F S2x8192x8x2x64 .f32 := broadcastInDim S2x8192x8x2x64 ![] bcast_S_S2x8192x8x2x64 main_cst
  let main_v2 : IVec S2x8192x8x2x64 1 := cmpf .olt main_v0 main_v1
  let main_v3 : FVec F S2x8192x8x2x64 .f32 := Host.absf main_arg1
  let main_cst_0 : FVec F S_ .f32 := constant S_ .f32 0x7F800000#32
  let main_v4 : FVec F S2x8192x8x2x64 .f32 := broadcastInDim S2x8192x8x2x64 ![] bcast_S_S2x8192x8x2x64 main_cst_0
  let main_v5 : IVec S2x8192x8x2x64 1 := cmpf .olt main_v3 main_v4
  let main_v6 : FVec F S2x8192x8x128 .f32 := Host.absf main_arg2
  let main_cst_1 : FVec F S_ .f32 := constant S_ .f32 0x7F800000#32
  let main_v7 : FVec F S2x8192x8x128 .f32 := broadcastInDim S2x8192x8x128 ![] bcast_S_S2x8192x8x128 main_cst_1
  let main_v8 : IVec S2x8192x8x128 1 := cmpf .olt main_v6 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_v12 : FVec F S64 .f32 := Host.absf main_arg4
  let main_cst_3 : FVec F S_ .f32 := constant S_ .f32 0x7F800000#32
  let main_v13 : FVec F S64 .f32 := broadcastInDim S64 ![] bcast_S_S64 main_cst_3
  let main_v14 : IVec S64 1 := cmpf .olt main_v12 main_v13
  let main_v15 : FVec F S64 .f32 := Host.absf main_arg5
  let main_cst_4 : FVec F S_ .f32 := constant S_ .f32 0x7F800000#32
  let main_v16 : FVec F S64 .f32 := broadcastInDim S64 ![] bcast_S_S64 main_cst_4
  let main_v17 : IVec S64 1 := cmpf .olt main_v15 main_v16
  fn_part1 (F := F) main_arg6 main_v2 main_v5 main_v8 main_v11 main_v14 main_v17
-- ==== Diff.lean ====
abbrev S2x8192x8x2x64 : Shape := ⟨5, ![2, 8192, 8, 2, 64]⟩
abbrev S2x8192x8x128 : Shape := ⟨4, ![2, 8192, 8, 128]⟩
abbrev S64 : Shape := ⟨1, ![64]⟩
abbrev S128 : Shape := ⟨1, ![128]⟩
abbrev S_ : Shape := ⟨0, ![]⟩
abbrev S16384x1024 : Shape := ⟨2, ![16384, 1024]⟩
abbrev S32x512x1024 : Shape := ⟨3, ![32, 512, 1024]⟩
abbrev S32x1024x512 : Shape := ⟨3, ![32, 1024, 512]⟩
abbrev S1x64 : Shape := ⟨2, ![1, 64]⟩
abbrev S4x64 : Shape := ⟨2, ![4, 64]⟩
abbrev S128x1 : Shape := ⟨2, ![128, 1]⟩
abbrev S512x128 : Shape := ⟨2, ![512, 128]⟩
abbrev S8192x128 : Shape := ⟨2, ![8192, 128]⟩
abbrev S16x128x512 : Shape := ⟨3, ![16, 128, 512]⟩
abbrev S512x512 : Shape := ⟨2, ![512, 512]⟩
abbrev S1x1 : Shape := ⟨2, ![1, 1]⟩
abbrev S1024x128 : Shape := ⟨2, ![1024, 128]⟩
abbrev S1x1024 : Shape := ⟨2, ![1, 1024]⟩
abbrev S128x1024 : Shape := ⟨2, ![128, 1024]⟩
abbrev S512x1024 : Shape := ⟨2, ![512, 1024]⟩
abbrev S1024 : Shape := ⟨1, ![1024]⟩
abbrev S1x128x512 : Shape := ⟨3, ![1, 128, 512]⟩
abbrev S128x512 : Shape := ⟨2, ![128, 512]⟩
abbrev S1 : Shape := ⟨1, ![1]⟩
abbrev S512 : Shape := ⟨1, ![512]⟩
abbrev S1x512 : Shape := ⟨2, ![1, 512]⟩

abbrev nBuf : Space → Nat
  | .hbm => 25
  | .vmem => 12
  | .smem => 0
  | _ => 0

abbrev bufTy : (tb : Table) → Fin (tcTables nBuf tb) → BufTy
  | .hbm, ⟨0, _⟩ => ⟨S2x8192x8x2x64, .f32⟩
  | .hbm, ⟨1, _⟩ => ⟨S2x8192x8x2x64, .f32⟩
  | .hbm, ⟨2, _⟩ => ⟨S2x8192x8x128, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S128, .f32⟩
  | .hbm, ⟨8, _⟩ => ⟨S_, .f32⟩
  | .hbm, ⟨9, _⟩ => ⟨S2x8192x8x2x64, .f32⟩
  | .hbm, ⟨10, _⟩ => ⟨S2x8192x8x2x64, .f32⟩
  | .hbm, ⟨11, _⟩ => ⟨S2x8192x8x2x64, .bf16⟩
  | .hbm, ⟨12, _⟩ => ⟨S16384x1024, .bf16⟩
  | .hbm, ⟨13, _⟩ => ⟨S2x8192x8x2x64, .bf16⟩
  | .hbm, ⟨14, _⟩ => ⟨S16384x1024, .bf16⟩
  | .hbm, ⟨15, _⟩ => ⟨S2x8192x8x128, .bf16⟩
  | .hbm, ⟨16, _⟩ => ⟨S32x512x1024, .bf16⟩
  | .hbm, ⟨17, _⟩ => ⟨S32x1024x512, .bf16⟩
  | .hbm, ⟨18, _⟩ => ⟨S1x64, .f32⟩
  | .hbm, ⟨19, _⟩ => ⟨S1x64, .f32⟩
  | .hbm, ⟨20, _⟩ => ⟨S1x64, .f32⟩
  | .hbm, ⟨21, _⟩ => ⟨S1x64, .f32⟩
  | .hbm, ⟨22, _⟩ => ⟨S4x64, .f32⟩
  | .hbm, ⟨23, _⟩ => ⟨S128x1, .f32⟩
  | .hbm, ⟨24, _⟩ => ⟨S16384x1024, .bf16⟩
  | .local _ .vmem, ⟨0, _⟩ => ⟨S512x128, .bf16⟩
  | .local _ .vmem, ⟨1, _⟩ => ⟨S512x128, .bf16⟩
  | .local _ .vmem, ⟨2, _⟩ => ⟨S8192x128, .bf16⟩
  | .local _ .vmem, ⟨3, _⟩ => ⟨S8192x128, .bf16⟩
  | .local _ .vmem, ⟨4, _⟩ => ⟨S16x128x512, .bf16⟩
  | .local _ .vmem, ⟨5, _⟩ => ⟨S16x128x512, .bf16⟩
  | .local _ .vmem, ⟨6, _⟩ => ⟨S4x64, .f32⟩
  | .local _ .vmem, ⟨7, _⟩ => ⟨S128x1, .f32⟩
  | .local _ .vmem, ⟨8, _⟩ => ⟨S512x128, .bf16⟩
  | .local _ .vmem, ⟨9, _⟩ => ⟨S512x128, .bf16⟩
  | .local _ .vmem, ⟨10, _⟩ => ⟨S512x512, .f32⟩
  | .local _ .vmem, ⟨11, _⟩ => ⟨S512x512, .f32⟩
  | _, _ => ⟨S2x8192x8x2x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![2, 8, 16], ![false, false, false]⟩

@[reducible] def k0_t1_loop (i : grid0.Coords) : Scf.Loop 32 :=
  let c0_i32_6 : BitVec 32 := 0#32
  let arg2 : BitVec 32 := BitVec.ofNat 32 (i 2).val
  let v22 : BitVec 32 := Scalar.subi arg2 c0_i32_6
  let c1_i32 : BitVec 32 := 1#32
  let v24 : BitVec 32 := Scalar.divsi v22 c1_i32
  let v25 : BitVec 32 := Scalar.muli v24 c1_i32
  let v26 : BitVec 32 := Scalar.addi c0_i32_6 v25
  let c1_i32_7 : BitVec 32 := 1#32
  ⟨c0_i32_6, v26, c1_i32_7⟩
def k0_mult1 (i : grid0.Coords) (k0_t1 : Fin (k0_t1_loop i).trips) : BitVec 32 :=
  let c0_i32_6 : BitVec 32 := 0#32
  let c1_i32_7 : BitVec 32 := 1#32
  let arg11 : BitVec 32 := Scf.iv c0_i32_6 c1_i32_7 k0_t1
  let c512_i32_34 : BitVec 32 := 512#32
  let v116 : BitVec 32 := Scalar.muli arg11 c512_i32_34
  v116
def k0_off1 (i : grid0.Coords) (k0_t1 : Fin (k0_t1_loop i).trips) : Fin 2 → Nat :=
  let c0_i32_6 : BitVec 32 := 0#32
  let c1_i32_7 : BitVec 32 := 1#32
  let arg11 : BitVec 32 := Scf.iv c0_i32_6 c1_i32_7 k0_t1
  let c512_i32_34 : BitVec 32 := 512#32
  let v116 : BitVec 32 := Scalar.muli arg11 c512_i32_34
  let v117 : BitVec 32 := v116
  let v118 : Index := Scalar.indexCast v117
  let c0_35 : Index := 0#32
  ![v118.toNat, 0]
def k0_off2 (i : grid0.Coords) (k0_t1 : Fin (k0_t1_loop i).trips) : Fin 3 → Nat :=
  let c0_i32_6 : BitVec 32 := 0#32
  let c1_i32_7 : BitVec 32 := 1#32
  let arg11 : BitVec 32 := Scf.iv c0_i32_6 c1_i32_7 k0_t1
  let v146 : Index := Scalar.indexCast arg11
  let c0_41 : Index := 0#32
  let c0_42 : Index := 0#32
  ![v146.toNat, 0, 0]
@[reducible] def k0_t2_loop (i : grid0.Coords) : Scf.Loop 32 :=
  let c0_i32_6 : BitVec 32 := 0#32
  let arg2 : BitVec 32 := BitVec.ofNat 32 (i 2).val
  let v22 : BitVec 32 := Scalar.subi arg2 c0_i32_6
  let c1_i32 : BitVec 32 := 1#32
  let v24 : BitVec 32 := Scalar.divsi v22 c1_i32
  let v25 : BitVec 32 := Scalar.muli v24 c1_i32
  let v26 : BitVec 32 := Scalar.addi c0_i32_6 v25
  let v23 : BitVec 32 := Scalar.addi c0_i32_6 v22
  let c1_i32_8 : BitVec 32 := 1#32
  ⟨v26, v23, c1_i32_8⟩
def k0_mult2 (i : grid0.Coords) (k0_t2 : Fin (k0_t2_loop i).trips) : BitVec 32 :=
  let c0_i32_6 : BitVec 32 := 0#32
  let arg2 : BitVec 32 := BitVec.ofNat 32 (i 2).val
  let v22 : BitVec 32 := Scalar.subi arg2 c0_i32_6
  let c1_i32 : BitVec 32 := 1#32
  let v24 : BitVec 32 := Scalar.divsi v22 c1_i32
  let v25 : BitVec 32 := Scalar.muli v24 c1_i32
  let v26 : BitVec 32 := Scalar.addi c0_i32_6 v25
  let c1_i32_8 : BitVec 32 := 1#32
  let arg11 : BitVec 32 := Scf.iv v26 c1_i32_8 k0_t2
  let c512_i32_34 : BitVec 32 := 512#32
  let v116 : BitVec 32 := Scalar.muli arg11 c512_i32_34
  v116
def k0_off3 (i : grid0.Coords) (k0_t2 : Fin (k0_t2_loop i).trips) : Fin 2 → Nat :=
  let c0_i32_6 : BitVec 32 := 0#32
  let arg2 : BitVec 32 := BitVec.ofNat 32 (i 2).val
  let v22 : BitVec 32 := Scalar.subi arg2 c0_i32_6
  let c1_i32 : BitVec 32 := 1#32
  let v24 : BitVec 32 := Scalar.divsi v22 c1_i32
  let v25 : BitVec 32 := Scalar.muli v24 c1_i32
  let v26 : BitVec 32 := Scalar.addi c0_i32_6 v25
  let c1_i32_8 : BitVec 32 := 1#32
  let arg11 : BitVec 32 := Scf.iv v26 c1_i32_8 k0_t2
  let c512_i32_34 : BitVec 32 := 512#32
  let v116 : BitVec 32 := Scalar.muli arg11 c512_i32_34
  let v117 : BitVec 32 := v116
  let v118 : Index := Scalar.indexCast v117
  let c0_35 : Index := 0#32
  ![v118.toNat, 0]
def k0_off4 (i : grid0.Coords) (k0_t2 : Fin (k0_t2_loop i).trips) : Fin 3 → Nat :=
  let c0_i32_6 : BitVec 32 := 0#32
  let arg2 : BitVec 32 := BitVec.ofNat 32 (i 2).val
  let v22 : BitVec 32 := Scalar.subi arg2 c0_i32_6
  let c1_i32 : BitVec 32 := 1#32
  let v24 : BitVec 32 := Scalar.divsi v22 c1_i32
  let v25 : BitVec 32 := Scalar.muli v24 c1_i32
  let v26 : BitVec 32 := Scalar.addi c0_i32_6 v25
  let c1_i32_8 : BitVec 32 := 1#32
  let arg11 : BitVec 32 := Scf.iv v26 c1_i32_8 k0_t2
  let v146 : Index := Scalar.indexCast arg11
  let c0_41 : Index := 0#32
  let c0_42 : Index := 0#32
  ![v146.toNat, 0, 0]
def k0_mult3 (i : grid0.Coords) : BitVec 32 :=
  let arg2 : BitVec 32 := BitVec.ofNat 32 (i 2).val
  let c512_i32 : BitVec 32 := 512#32
  let v30 : BitVec 32 := Scalar.muli arg2 c512_i32
  v30
def k0_off5 (i : grid0.Coords) : Fin 2 → Nat :=
  let arg2 : BitVec 32 := BitVec.ofNat 32 (i 2).val
  let c512_i32 : BitVec 32 := 512#32
  let v30 : BitVec 32 := Scalar.muli arg2 c512_i32
  let v31 : BitVec 32 := v30
  let v32 : Index := Scalar.indexCast v31
  let c0_10 : Index := 0#32
  ![v32.toNat, 0]
def k0_off6 (i : grid0.Coords) : Fin 3 → Nat :=
  let arg2 : BitVec 32 := BitVec.ofNat 32 (i 2).val
  let v60 : Index := Scalar.indexCast arg2
  let c0_16 : Index := 0#32
  let c0_17 : Index := 0#32
  ![v60.toNat, 0, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S16x128x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S4x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S128x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== DiffIdeal.lean ====
variable {F : FTy → Type} [FloatOps F] [Named F]
def κ : String → Option EReal := fun
  | "mask" => some ⊥
  | _ => none
-- ==== DiffRefIdeal.lean ====
abbrev S2x8192x8x2x64 : Shape := ⟨5, ![2, 8192, 8, 2, 64]⟩
abbrev S2x8192x8x128 : Shape := ⟨4, ![2, 8192, 8, 128]⟩
abbrev S64 : Shape := ⟨1, ![64]⟩
abbrev S128 : Shape := ⟨1, ![128]⟩
abbrev S8 : Shape := ⟨1, ![8]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S8x1x1 : Shape := ⟨3, ![8, 1, 1]⟩
abbrev S1x8192x8192 : Shape := ⟨3, ![1, 8192, 8192]⟩
abbrev S8x8192x8192 : Shape := ⟨3, ![8, 8192, 8192]⟩
abbrev S2x8192x8x1x64 : Shape := ⟨5, ![2, 8192, 8, 1, 64]⟩
abbrev S2x8192x8x64 : Shape := ⟨4, ![2, 8192, 8, 64]⟩
abbrev S2x8x8192x8192 : Shape := ⟨4, ![2, 8, 8192, 8192]⟩
abbrev S1x8x8192x8192 : Shape := ⟨4, ![1, 8, 8192, 8192]⟩
abbrev S2x8x8192 : Shape := ⟨3, ![2, 8, 8192]⟩
abbrev S2x8x8192x1 : Shape := ⟨4, ![2, 8, 8192, 1]⟩
abbrev S2x8x128x8192 : Shape := ⟨4, ![2, 8, 128, 8192]⟩
abbrev S2x8192x8 : Shape := ⟨3, ![2, 8192, 8]⟩
abbrev S2x8192x8x1 : Shape := ⟨4, ![2, 8192, 8, 1]⟩
abbrev S1x1x1x128 : Shape := ⟨4, ![1, 1, 1, 128]⟩
abbrev S16384x1024 : Shape := ⟨2, ![16384, 1024]⟩

abbrev nBuf : Space → Nat
  | .hbm => 126
  | .vmem => 0
  | .smem => 0
  | _ => 0

abbrev bufTy : (tb : Table) → Fin (tcTables nBuf tb) → BufTy
  | .hbm, ⟨0, _⟩ => ⟨S2x8192x8x2x64, .f32⟩
  | .hbm, ⟨1, _⟩ => ⟨S2x8192x8x2x64, .f32⟩
  | .hbm, ⟨2, _⟩ => ⟨S2x8192x8x128, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S128, .f32⟩
  | .hbm, ⟨8, _⟩ => ⟨S8, .f32⟩
  | .hbm, ⟨9, _⟩ => ⟨S64, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S64, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S8192, .i32⟩
  | .hbm, ⟨21, _⟩ => ⟨S8192x1, .i32⟩
  | .hbm, ⟨22, _⟩ => ⟨S1x8192, .i32⟩
  | .hbm, ⟨23, _⟩ => ⟨S8192x8192, .i32⟩
  | .hbm, ⟨24, _⟩ => ⟨S8192x8192, .i32⟩
  | .hbm, ⟨25, _⟩ => ⟨S8192x8192, .i32⟩
  | .hbm, ⟨26, _⟩ => ⟨S8192x8192, .i32⟩
  | .hbm, ⟨27, _⟩ => ⟨S8192x8192, .f32⟩
  | .hbm, ⟨28, _⟩ => ⟨S8x1x1, .f32⟩
  | .hbm, ⟨29, _⟩ => ⟨S8x1x1, .f32⟩
  | .hbm, ⟨30, _⟩ => ⟨S1x8192x8192, .f32⟩
  | .hbm, ⟨31, _⟩ => ⟨S8x8192x8192, .f32⟩
  | .hbm, ⟨32, _⟩ => ⟨S8x8192x8192, .f32⟩
  | .hbm, ⟨33, _⟩ => ⟨S8x8192x8192, .f32⟩
  | .hbm, ⟨34, _⟩ => ⟨S_, .i32⟩
  | .hbm, ⟨35, _⟩ => ⟨S8192, .i32⟩
  | .hbm, ⟨36, _⟩ => ⟨S8192, .i32⟩
  | .hbm, ⟨37, _⟩ => ⟨S1x8192, .i32⟩
  | .hbm, ⟨38, _⟩ => ⟨S8192x1, .i32⟩
  | .hbm, ⟨39, _⟩ => ⟨S8192x8192, .i32⟩
  | .hbm, ⟨40, _⟩ => ⟨S8192x8192, .i32⟩
  | .hbm, ⟨41, _⟩ => ⟨S8192x8192, .i1⟩
  | .hbm, ⟨42, _⟩ => ⟨S2x8192x8x1x64, .f32⟩
  | .hbm, ⟨43, _⟩ => ⟨S2x8192x8x64, .f32⟩
  | .hbm, ⟨44, _⟩ => ⟨S2x8192x8x1x64, .f32⟩
  | .hbm, ⟨45, _⟩ => ⟨S2x8192x8x64, .f32⟩
  | .hbm, ⟨46, _⟩ => ⟨S2x8x8192x8192, .f32⟩
  | .hbm, ⟨47, _⟩ => ⟨S_, .f32⟩
  | .hbm, ⟨48, _⟩ => ⟨S2x8x8192x8192, .f32⟩
  | .hbm, ⟨49, _⟩ => ⟨S2x8x8192x8192, .f32⟩
  | .hbm, ⟨50, _⟩ => ⟨S1x8x8192x8192, .f32⟩
  | .hbm, ⟨51, _⟩ => ⟨S2x8x8192x8192, .f32⟩
  | .hbm, ⟨52, _⟩ => ⟨S2x8x8192x8192, .f32⟩
  | .hbm, ⟨53, _⟩ => ⟨S2x8x8192x8192, .i1⟩
  | .hbm, ⟨54, _⟩ => ⟨S_, .f32⟩
  | .hbm, ⟨55, _⟩ => ⟨S2x8x8192x8192, .f32⟩
  | .hbm, ⟨56, _⟩ => ⟨S2x8x8192x8192, .f32⟩
  | .hbm, ⟨57, _⟩ => ⟨S_, .f32⟩
  | .hbm, ⟨58, _⟩ => ⟨S2x8x8192, .f32⟩
  | .hbm, ⟨59, _⟩ => ⟨S_, .f32⟩
  | .hbm, ⟨60, _⟩ => ⟨S2x8x8192, .f32⟩
  | .hbm, ⟨61, _⟩ => ⟨S2x8x8192, .f32⟩
  | .hbm, ⟨62, _⟩ => ⟨S2x8x8192x1, .f32⟩
  | .hbm, ⟨63, _⟩ => ⟨S2x8x8192x8192, .f32⟩
  | .hbm, ⟨64, _⟩ => ⟨S2x8x8192x8192, .f32⟩
  | .hbm, ⟨65, _⟩ => ⟨S2x8x8192x8192, .f32⟩
  | .hbm, ⟨66, _⟩ => ⟨S_, .f32⟩
  | .hbm, ⟨67, _⟩ => ⟨S2x8x8192, .f32⟩
  | .hbm, ⟨68, _⟩ => ⟨S2x8x8192x1, .f32⟩
  | .hbm, ⟨69, _⟩ => ⟨S2x8x8192x8192, .f32⟩
  | .hbm, ⟨70, _⟩ => ⟨S2x8x8192x8192, .f32⟩
  | .hbm, ⟨71, _⟩ => ⟨S2x8192x8x1x64, .f32⟩
  | .hbm, ⟨72, _⟩ => ⟨S2x8192x8x64, .f32⟩
  | .hbm, ⟨73, _⟩ => ⟨S2x8192x8x1x64, .f32⟩
  | .hbm, ⟨74, _⟩ => ⟨S2x8192x8x64, .f32⟩
  | .hbm, ⟨75, _⟩ => ⟨S2x8x8192x8192, .f32⟩
  | .hbm, ⟨76, _⟩ => ⟨S_, .f32⟩
  | .hbm, ⟨77, _⟩ => ⟨S2x8x8192x8192, .f32⟩
  | .hbm, ⟨78, _⟩ => ⟨S2x8x8192x8192, .f32⟩
  | .hbm, ⟨79, _⟩ => ⟨S1x8x8192x8192, .f32⟩
  | .hbm, ⟨80, _⟩ => ⟨S2x8x8192x8192, .f32⟩
  | .hbm, ⟨81, _⟩ => ⟨S2x8x8192x8192, .f32⟩
  | .hbm, ⟨82, _⟩ => ⟨S2x8x8192x8192, .i1⟩
  | .hbm, ⟨83, _⟩ => ⟨S_, .f32⟩
  | .hbm, ⟨84, _⟩ => ⟨S2x8x8192x8192, .f32⟩
  | .hbm, ⟨85, _⟩ => ⟨S2x8x8192x8192, .f32⟩
  | .hbm, ⟨86, _⟩ => ⟨S_, .f32⟩
  | .hbm, ⟨87, _⟩ => ⟨S2x8x8192, .f32⟩
  | .hbm, ⟨88, _⟩ => ⟨S_, .f32⟩
  | .hbm, ⟨89, _⟩ => ⟨S2x8x8192, .f32⟩
  | .hbm, ⟨90, _⟩ => ⟨S2x8x8192, .f32⟩
  | .hbm, ⟨91, _⟩ => ⟨S2x8x8192x1, .f32⟩
  | .hbm, ⟨92, _⟩ => ⟨S2x8x8192x8192, .f32⟩
  | .hbm, ⟨93, _⟩ => ⟨S2x8x8192x8192, .f32⟩
  | .hbm, ⟨94, _⟩ => ⟨S2x8x8192x8192, .f32⟩
  | .hbm, ⟨95, _⟩ => ⟨S_, .f32⟩
  | .hbm, ⟨96, _⟩ => ⟨S2x8x8192, .f32⟩
  | .hbm, ⟨97, _⟩ => ⟨S2x8x8192x1, .f32⟩
  | .hbm, ⟨98, _⟩ => ⟨S2x8x8192x8192, .f32⟩
  | .hbm, ⟨99, _⟩ => ⟨S2x8x8192x8192, .f32⟩
  | .hbm, ⟨100, _⟩ => ⟨S2x8x8192x8192, .f32⟩
  | .hbm, ⟨101, _⟩ => ⟨S2x8x8192x8192, .f32⟩
  | .hbm, ⟨102, _⟩ => ⟨S2x8x8192x8192, .f32⟩
  | .hbm, ⟨103, _⟩ => ⟨S2x8x128x8192, .f32⟩
  | .hbm, ⟨104, _⟩ => ⟨S2x8192x8x128, .f32⟩
  | .hbm, ⟨105, _⟩ => ⟨S2x8192x8x128, .f32⟩
  | .hbm, ⟨106, _⟩ => ⟨S_, .f32⟩
  | .hbm, ⟨107, _⟩ => ⟨S2x8192x8, .f32⟩
  | .hbm, ⟨108, _⟩ => ⟨S2x8192x8x1, .f32⟩
  | .hbm, ⟨109, _⟩ => ⟨S_, .f32⟩
  | .hbm, ⟨110, _⟩ => ⟨S2x8192x8x1, .f32⟩
  | .hbm, ⟨111, _⟩ => ⟨S2x8192x8x1, .f32⟩
  | .hbm, ⟨112, _⟩ => ⟨S_, .f32⟩
  | .hbm, ⟨113, _⟩ => ⟨S2x8192x8x1, .f32⟩
  | .hbm, ⟨114, _⟩ => ⟨S2x8192x8x1, .f32⟩
  | .hbm, ⟨115, _⟩ => ⟨S2x8192x8x1, .f32⟩
  | .hbm, ⟨116, _⟩ => ⟨S2x8192x8x128, .f32⟩
  | .hbm, ⟨117, _⟩ => ⟨S2x8192x8x128, .f32⟩
  | .hbm, ⟨118, _⟩ => ⟨S1x1x1x128, .f32⟩
  | .hbm, ⟨119, _⟩ => ⟨S2x8192x8x128, .f32⟩
  | .hbm, ⟨120, _⟩ => ⟨S2x8192x8x128, .f32⟩
  | .hbm, ⟨121, _⟩ => ⟨S_, .f32⟩
  | .hbm, ⟨122, _⟩ => ⟨S2x8192x8x128, .f32⟩
  | .hbm, ⟨123, _⟩ => ⟨S2x8192x8x128, .f32⟩
  | .hbm, ⟨124, _⟩ => ⟨S16384x1024, .f32⟩
  | .hbm, ⟨125, _⟩ => ⟨S16384x1024, .bf16⟩
  | _, _ => ⟨S2x8192x8x2x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_cst_0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst_1 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst_2 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_3 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_4 : Ref sig .tc := ⟨.hbm, 54, rfl⟩
abbrev main_v40 : Ref sig .tc := ⟨.hbm, 55, rfl⟩
abbrev main_v41 : Ref sig .tc := ⟨.hbm, 56, rfl⟩
abbrev main_cst_5 : Ref sig .tc := ⟨.hbm, 57, rfl⟩
abbrev main_v42 : Ref sig .tc := ⟨.hbm, 58, rfl⟩
abbrev main_cst_6 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_cst_7 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_cst_8 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_cst_9 : Ref sig .tc := ⟨.hbm, 83, rfl⟩
abbrev main_v64 : Ref sig .tc := ⟨.hbm, 84, rfl⟩
abbrev main_v65 : Ref sig .tc := ⟨.hbm, 85, rfl⟩
abbrev main_cst_10 : Ref sig .tc := ⟨.hbm, 86, rfl⟩
abbrev main_v66 : Ref sig .tc := ⟨.hbm, 87, rfl⟩
abbrev main_cst_11 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_cst_12 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_cst_13 : Ref sig .tc := ⟨.hbm, 106, rfl⟩
abbrev main_v83 : Ref sig .tc := ⟨.hbm, 107, rfl⟩
abbrev main_v84 : Ref sig .tc := ⟨.hbm, 108, rfl⟩
abbrev main_cst_14 : Ref sig .tc := ⟨.hbm, 109, rfl⟩
abbrev main_v85 : Ref sig .tc := ⟨.hbm, 110, rfl⟩
abbrev main_v86 : Ref sig .tc := ⟨.hbm, 111, rfl⟩
abbrev main_cst_15 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_cst_16 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩

abbrev nD : Nat := 1
abbrev τ : Topo := Topo.v7x

variable {F : FTy → Type} [FloatOps F]
-- ==== InProj.lean ====
abbrev S2x8192x1024 : Shape := ⟨3, ![2, 8192, 1024]⟩
abbrev S1x1024 : Shape := ⟨2, ![1, 1024]⟩
abbrev S1x1024x6656 : Shape := ⟨3, ![1, 1024, 6656]⟩
abbrev S16384x1024 : Shape := ⟨2, ![16384, 1024]⟩
abbrev S1024 : Shape := ⟨1, ![1024]⟩
abbrev S1024x6656 : Shape := ⟨2, ![1024, 6656]⟩
abbrev S1024x1024 : Shape := ⟨2, ![1024, 1024]⟩
abbrev S32x1024x512 : Shape := ⟨3, ![32, 1024, 512]⟩
abbrev S16384x512 : Shape := ⟨2, ![16384, 512]⟩
abbrev S16384x2048 : Shape := ⟨2, ![16384, 2048]⟩
abbrev S512x1024 : Shape := ⟨2, ![512, 1024]⟩
abbrev S1x1024x512 : Shape := ⟨3, ![1, 1024, 512]⟩
abbrev S512x512 : Shape := ⟨2, ![512, 512]⟩
abbrev S512x2048 : Shape := ⟨2, ![512, 2048]⟩
abbrev S512 : Shape := ⟨1, ![512]⟩
abbrev S512x1 : Shape := ⟨2, ![512, 1]⟩
abbrev S1024x512 : Shape := ⟨2, ![1024, 512]⟩
abbrev S1024x2048 : Shape := ⟨2, ![1024, 2048]⟩

abbrev nBuf : Space → Nat
  | .hbm => 17
  | .vmem => 19
  | .smem => 0
  | _ => 0

abbrev bufTy : (tb : Table) → Fin (tcTables nBuf tb) → BufTy
  | .hbm, ⟨0, _⟩ => ⟨S2x8192x1024, .f32⟩
  | .hbm, ⟨1, _⟩ => ⟨S1x1024, .f32⟩
  | .hbm, ⟨2, _⟩ => ⟨S1x1024x6656, .f32⟩
  | .hbm, ⟨3, _⟩ => ⟨S16384x1024, .f32⟩
  | .hbm, ⟨4, _⟩ => ⟨S1024, .f32⟩
  | .hbm, ⟨5, _⟩ => ⟨S1024x6656, .f32⟩
  | .hbm, ⟨6, _⟩ => ⟨S1024x6656, .bf16⟩
  | .hbm, ⟨7, _⟩ => ⟨S1024x1024, .bf16⟩
  | .hbm, ⟨8, _⟩ => ⟨S1024x1024, .bf16⟩
  | .hbm, ⟨9, _⟩ => ⟨S1x1024, .f32⟩
  | .hbm, ⟨10, _⟩ => ⟨S16384x1024, .bf16⟩
  | .hbm, ⟨11, _⟩ => ⟨S16384x1024, .bf16⟩
  | .hbm, ⟨12, _⟩ => ⟨S32x1024x512, .bf16⟩
  | .hbm, ⟨13, _⟩ => ⟨S16384x512, .bf16⟩
  | .hbm, ⟨14, _⟩ => ⟨S16384x512, .bf16⟩
  | .hbm, ⟨15, _⟩ => ⟨S16384x512, .bf16⟩
  | .hbm, ⟨16, _⟩ => ⟨S16384x2048, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x6656, .bf16⟩
  | .local _ .vmem, ⟨4, _⟩ => ⟨S1024x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S1x1024x512, .bf16⟩
  | .local _ .vmem, ⟨10, _⟩ => ⟨S1x1024x512, .bf16⟩
  | .local _ .vmem, ⟨11, _⟩ => ⟨S512x512, .bf16⟩
  | .local _ .vmem, ⟨12, _⟩ => ⟨S512x512, .bf16⟩
  | .local _ .vmem, ⟨13, _⟩ => ⟨S512x512, .bf16⟩
  | .local _ .vmem, ⟨14, _⟩ => ⟨S512x512, .bf16⟩
  | .local _ .vmem, ⟨15, _⟩ => ⟨S512x512, .bf16⟩
  | .local _ .vmem, ⟨16, _⟩ => ⟨S512x512, .bf16⟩
  | .local _ .vmem, ⟨17, _⟩ => ⟨S512x2048, .f32⟩
  | .local _ .vmem, ⟨18, _⟩ => ⟨S512x2048, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7_0 : Ref sig .tc := ⟨.hbm, 10, rfl⟩
abbrev main_v7_1 : Ref sig .tc := ⟨.hbm, 11, rfl⟩
abbrev main_v7_2 : Ref sig .tc := ⟨.hbm, 12, rfl⟩
abbrev main_v7_3 : Ref sig .tc := ⟨.hbm, 13, rfl⟩
abbrev main_v7_4 : Ref sig .tc := ⟨.hbm, 14, rfl⟩
abbrev main_v7_5 : Ref sig .tc := ⟨.hbm, 15, rfl⟩
abbrev main_v7_6 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x6656 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== InRefIdeal.lean ====
abbrev S2x8192x1024 : Shape := ⟨3, ![2, 8192, 1024]⟩
abbrev S1x1024 : Shape := ⟨2, ![1, 1024]⟩
abbrev S1x1024x6656 : Shape := ⟨3, ![1, 1024, 6656]⟩
abbrev S1024 : Shape := ⟨1, ![1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S1024x6656 : Shape := ⟨2, ![1024, 6656]⟩
abbrev S2x8192x6656 : Shape := ⟨3, ![2, 8192, 6656]⟩
abbrev S2x8192x512 : Shape := ⟨3, ![2, 8192, 512]⟩
abbrev S2x8192x2048 : Shape := ⟨3, ![2, 8192, 2048]⟩
abbrev S16384x1024 : Shape := ⟨2, ![16384, 1024]⟩
abbrev S32x512x1024 : Shape := ⟨3, ![32, 512, 1024]⟩
abbrev S32x1024x512 : Shape := ⟨3, ![32, 1024, 512]⟩
abbrev S16384x512 : Shape := ⟨2, ![16384, 512]⟩
abbrev S16384x2048 : Shape := ⟨2, ![16384, 2048]⟩

abbrev nBuf : Space → Nat
  | .hbm => 49
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S1x1024, .f32⟩
  | .hbm, ⟨2, _⟩ => ⟨S1x1024x6656, .f32⟩
  | .hbm, ⟨3, _⟩ => ⟨S1024, .f32⟩
  | .hbm, ⟨4, _⟩ => ⟨S2x8192x1024, .f32⟩
  | .hbm, ⟨5, _⟩ => ⟨S_, .f32⟩
  | .hbm, ⟨6, _⟩ => ⟨S2x8192, .f32⟩
  | .hbm, ⟨7, _⟩ => ⟨S2x8192x1, .f32⟩
  | .hbm, ⟨8, _⟩ => ⟨S_, .f32⟩
  | .hbm, ⟨9, _⟩ => ⟨S2x8192x1, .f32⟩
  | .hbm, ⟨10, _⟩ => ⟨S2x8192x1, .f32⟩
  | .hbm, ⟨11, _⟩ => ⟨S_, .f32⟩
  | .hbm, ⟨12, _⟩ => ⟨S2x8192x1, .f32⟩
  | .hbm, ⟨13, _⟩ => ⟨S2x8192x1, .f32⟩
  | .hbm, ⟨14, _⟩ => ⟨S2x8192x1, .f32⟩
  | .hbm, ⟨15, _⟩ => ⟨S2x8192x1024, .f32⟩
  | .hbm, ⟨16, _⟩ => ⟨S2x8192x1024, .f32⟩
  | .hbm, ⟨17, _⟩ => ⟨S1x1x1024, .f32⟩
  | .hbm, ⟨18, _⟩ => ⟨S2x8192x1024, .f32⟩
  | .hbm, ⟨19, _⟩ => ⟨S2x8192x1024, .f32⟩
  | .hbm, ⟨20, _⟩ => ⟨S1024x6656, .f32⟩
  | .hbm, ⟨21, _⟩ => ⟨S2x8192x6656, .f32⟩
  | .hbm, ⟨22, _⟩ => ⟨S2x8192x1024, .f32⟩
  | .hbm, ⟨23, _⟩ => ⟨S2x8192x1024, .f32⟩
  | .hbm, ⟨24, _⟩ => ⟨S2x8192x1024, .f32⟩
  | .hbm, ⟨25, _⟩ => ⟨S2x8192x512, .f32⟩
  | .hbm, ⟨26, _⟩ => ⟨S2x8192x512, .f32⟩
  | .hbm, ⟨27, _⟩ => ⟨S2x8192x512, .f32⟩
  | .hbm, ⟨28, _⟩ => ⟨S2x8192x2048, .f32⟩
  | .hbm, ⟨29, _⟩ => ⟨S_, .f32⟩
  | .hbm, ⟨30, _⟩ => ⟨S2x8192x1024, .f32⟩
  | .hbm, ⟨31, _⟩ => ⟨S2x8192x1024, .f32⟩
  | .hbm, ⟨32, _⟩ => ⟨S16384x1024, .f32⟩
  | .hbm, ⟨33, _⟩ => ⟨S16384x1024, .bf16⟩
  | .hbm, ⟨34, _⟩ => ⟨S16384x1024, .f32⟩
  | .hbm, ⟨35, _⟩ => ⟨S16384x1024, .bf16⟩
  | .hbm, ⟨36, _⟩ => ⟨S32x512x1024, .f32⟩
  | .hbm, ⟨37, _⟩ => ⟨S32x1024x512, .f32⟩
  | .hbm, ⟨38, _⟩ => ⟨S32x1024x512, .bf16⟩
  | .hbm, ⟨39, _⟩ => ⟨S_, .f32⟩
  | .hbm, ⟨40, _⟩ => ⟨S2x8192x512, .f32⟩
  | .hbm, ⟨41, _⟩ => ⟨S2x8192x512, .f32⟩
  | .hbm, ⟨42, _⟩ => ⟨S16384x512, .f32⟩
  | .hbm, ⟨43, _⟩ => ⟨S16384x512, .bf16⟩
  | .hbm, ⟨44, _⟩ => ⟨S16384x512, .f32⟩
  | .hbm, ⟨45, _⟩ => ⟨S16384x512, .bf16⟩
  | .hbm, ⟨46, _⟩ => ⟨S16384x512, .f32⟩
  | .hbm, ⟨47, _⟩ => ⟨S16384x512, .bf16⟩
  | .hbm, ⟨48, _⟩ => ⟨S16384x2048, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst_2 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_cst_3 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩

abbrev nD : Nat := 1
abbrev τ : Topo := Topo.v7x

variable {F : FTy → Type} [FloatOps F]
-- ==== Merge.lean ====
abbrev S2x8192x1024 : Shape := ⟨3, ![2, 8192, 1024]⟩
abbrev S2x8192x512 : Shape := ⟨3, ![2, 8192, 512]⟩
abbrev S2x8192x2048 : Shape := ⟨3, ![2, 8192, 2048]⟩
abbrev S1x2048 : Shape := ⟨2, ![1, 2048]⟩
abbrev S1x1024x1024 : Shape := ⟨3, ![1, 1024, 1024]⟩
abbrev S1x512x1024 : Shape := ⟨3, ![1, 512, 1024]⟩
abbrev S1x1024 : Shape := ⟨2, ![1, 1024]⟩
abbrev S16384x1024 : Shape := ⟨2, ![16384, 1024]⟩
abbrev S16384x512 : Shape := ⟨2, ![16384, 512]⟩
abbrev S16384x2048 : Shape := ⟨2, ![16384, 2048]⟩
abbrev S2048 : Shape := ⟨1, ![2048]⟩
abbrev S1024x1024 : Shape := ⟨2, ![1024, 1024]⟩
abbrev S512x1024 : Shape := ⟨2, ![512, 1024]⟩
abbrev S1024 : Shape := ⟨1, ![1024]⟩
abbrev S512x512 : Shape := ⟨2, ![512, 512]⟩
abbrev S512x2048 : Shape := ⟨2, ![512, 2048]⟩
abbrev S512 : Shape := ⟨1, ![512]⟩
abbrev S512x1 : Shape := ⟨2, ![512, 1]⟩

abbrev nBuf : Space → Nat
  | .hbm => 31
  | .vmem => 20
  | .smem => 0
  | _ => 0

abbrev bufTy : (tb : Table) → Fin (tcTables nBuf tb) → BufTy
  | .hbm, ⟨0, _⟩ => ⟨S2x8192x1024, .f32⟩
  | .hbm, ⟨1, _⟩ => ⟨S2x8192x512, .f32⟩
  | .hbm, ⟨2, _⟩ => ⟨S2x8192x2048, .f32⟩
  | .hbm, ⟨3, _⟩ => ⟨S2x8192x1024, .f32⟩
  | .hbm, ⟨4, _⟩ => ⟨S1x2048, .f32⟩
  | .hbm, ⟨5, _⟩ => ⟨S1x1024x1024, .f32⟩
  | .hbm, ⟨6, _⟩ => ⟨S1x512x1024, .f32⟩
  | .hbm, ⟨7, _⟩ => ⟨S1x1024x1024, .f32⟩
  | .hbm, ⟨8, _⟩ => ⟨S1x1024, .f32⟩
  | .hbm, ⟨9, _⟩ => ⟨S1x1024x1024, .f32⟩
  | .hbm, ⟨10, _⟩ => ⟨S2x8192x1024, .bf16⟩
  | .hbm, ⟨11, _⟩ => ⟨S16384x1024, .bf16⟩
  | .hbm, ⟨12, _⟩ => ⟨S2x8192x512, .bf16⟩
  | .hbm, ⟨13, _⟩ => ⟨S16384x512, .bf16⟩
  | .hbm, ⟨14, _⟩ => ⟨S16384x2048, .f32⟩
  | .hbm, ⟨15, _⟩ => ⟨S16384x1024, .f32⟩
  | .hbm, ⟨16, _⟩ => ⟨S2048, .f32⟩
  | .hbm, ⟨17, _⟩ => ⟨S1024x1024, .f32⟩
  | .hbm, ⟨18, _⟩ => ⟨S1024x1024, .bf16⟩
  | .hbm, ⟨19, _⟩ => ⟨S512x1024, .f32⟩
  | .hbm, ⟨20, _⟩ => ⟨S512x1024, .bf16⟩
  | .hbm, ⟨21, _⟩ => ⟨S1024x1024, .f32⟩
  | .hbm, ⟨22, _⟩ => ⟨S1024x1024, .bf16⟩
  | .hbm, ⟨23, _⟩ => ⟨S1024, .f32⟩
  | .hbm, ⟨24, _⟩ => ⟨S1024x1024, .f32⟩
  | .hbm, ⟨25, _⟩ => ⟨S1024x1024, .bf16⟩
  | .hbm, ⟨26, _⟩ => ⟨S1x2048, .f32⟩
  | .hbm, ⟨27, _⟩ => ⟨S1x1024, .f32⟩
  | .hbm, ⟨28, _⟩ => ⟨S16384x1024, .f32⟩
  | .hbm, ⟨29, _⟩ => ⟨S16384x1024, .bf16⟩
  | .hbm, ⟨30, _⟩ => ⟨S16384x1024, .bf16⟩
  | .local _ .vmem, ⟨0, _⟩ => ⟨S512x1024, .bf16⟩
  | .local _ .vmem, ⟨1, _⟩ => ⟨S512x1024, .bf16⟩
  | .local _ .vmem, ⟨2, _⟩ => ⟨S512x512, .bf16⟩
  | .local _ .vmem, ⟨3, _⟩ => ⟨S512x512, .bf16⟩
  | .local _ .vmem, ⟨4, _⟩ => ⟨S512x2048, .f32⟩
  | .local _ .vmem, ⟨5, _⟩ => ⟨S512x2048, .f32⟩
  | .local _ .vmem, ⟨6, _⟩ => ⟨S512x1024, .f32⟩
  | .local _ .vmem, ⟨7, _⟩ => ⟨S512x1024, .f32⟩
  | .local _ .vmem, ⟨8, _⟩ => ⟨S1x2048, .f32⟩
  | .local _ .vmem, ⟨9, _⟩ => ⟨S1024x1024, .bf16⟩
  | .local _ .vmem, ⟨10, _⟩ => ⟨S512x1024, .bf16⟩
  | .local _ .vmem, ⟨11, _⟩ => ⟨S1024x1024, .bf16⟩
  | .local _ .vmem, ⟨12, _⟩ => ⟨S1x1024, .f32⟩
  | .local _ .vmem, ⟨13, _⟩ => ⟨S1024x1024, .bf16⟩
  | .local _ .vmem, ⟨14, _⟩ => ⟨S512x1024, .f32⟩
  | .local _ .vmem, ⟨15, _⟩ => ⟨S512x1024, .f32⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18_0 : Ref sig .tc := ⟨.hbm, 28, rfl⟩
abbrev main_v18_1 : Ref sig .tc := ⟨.hbm, 29, rfl⟩
abbrev main_v18_2 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== MergeRefIdeal.lean ====
abbrev S2x8192x1024 : Shape := ⟨3, ![2, 8192, 1024]⟩
abbrev S2x8192x512 : Shape := ⟨3, ![2, 8192, 512]⟩
abbrev S2x8192x2048 : Shape := ⟨3, ![2, 8192, 2048]⟩
abbrev S1x2048 : Shape := ⟨2, ![1, 2048]⟩
abbrev S1x1024x1024 : Shape := ⟨3, ![1, 1024, 1024]⟩
abbrev S1x512x1024 : Shape := ⟨3, ![1, 512, 1024]⟩
abbrev S1x1024 : Shape := ⟨2, ![1, 1024]⟩
abbrev S1024 : Shape := ⟨1, ![1024]⟩
abbrev S1x1x1024 : Shape := ⟨3, ![1, 1, 1024]⟩
abbrev S_ : Shape := ⟨0, ![]⟩
abbrev S1024x1024 : Shape := ⟨2, ![1024, 1024]⟩
abbrev S512x1024 : Shape := ⟨2, ![512, 1024]⟩
abbrev S2x8192 : Shape := ⟨2, ![2, 8192]⟩
abbrev S2x8192x1 : Shape := ⟨3, ![2, 8192, 1]⟩
abbrev S16384x1024 : Shape := ⟨2, ![16384, 1024]⟩

abbrev nBuf : Space → Nat
  | .hbm => 72
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S2x8192x512, .f32⟩
  | .hbm, ⟨2, _⟩ => ⟨S2x8192x2048, .f32⟩
  | .hbm, ⟨3, _⟩ => ⟨S2x8192x1024, .f32⟩
  | .hbm, ⟨4, _⟩ => ⟨S1x2048, .f32⟩
  | .hbm, ⟨5, _⟩ => ⟨S1x1024x1024, .f32⟩
  | .hbm, ⟨6, _⟩ => ⟨S1x512x1024, .f32⟩
  | .hbm, ⟨7, _⟩ => ⟨S1x1024x1024, .f32⟩
  | .hbm, ⟨8, _⟩ => ⟨S1x1024, .f32⟩
  | .hbm, ⟨9, _⟩ => ⟨S1x1024x1024, .f32⟩
  | .hbm, ⟨10, _⟩ => ⟨S2x8192x1024, .f32⟩
  | .hbm, ⟨11, _⟩ => ⟨S2x8192x1024, .f32⟩
  | .hbm, ⟨12, _⟩ => ⟨S1x1024, .f32⟩
  | .hbm, ⟨13, _⟩ => ⟨S1024, .f32⟩
  | .hbm, ⟨14, _⟩ => ⟨S1x1x1024, .f32⟩
  | .hbm, ⟨15, _⟩ => ⟨S2x8192x1024, .f32⟩
  | .hbm, ⟨16, _⟩ => ⟨S2x8192x1024, .f32⟩
  | .hbm, ⟨17, _⟩ => ⟨S2x8192x1024, .f32⟩
  | .hbm, ⟨18, _⟩ => ⟨S2x8192x1024, .f32⟩
  | .hbm, ⟨19, _⟩ => ⟨S_, .f32⟩
  | .hbm, ⟨20, _⟩ => ⟨S2x8192x1024, .f32⟩
  | .hbm, ⟨21, _⟩ => ⟨S2x8192x1024, .f32⟩
  | .hbm, ⟨22, _⟩ => ⟨S_, .f32⟩
  | .hbm, ⟨23, _⟩ => ⟨S2x8192x1024, .f32⟩
  | .hbm, ⟨24, _⟩ => ⟨S2x8192x1024, .f32⟩
  | .hbm, ⟨25, _⟩ => ⟨S1x1024, .f32⟩
  | .hbm, ⟨26, _⟩ => ⟨S1024, .f32⟩
  | .hbm, ⟨27, _⟩ => ⟨S1x1x1024, .f32⟩
  | .hbm, ⟨28, _⟩ => ⟨S2x8192x1024, .f32⟩
  | .hbm, ⟨29, _⟩ => ⟨S2x8192x1024, .f32⟩
  | .hbm, ⟨30, _⟩ => ⟨S2x8192x1024, .f32⟩
  | .hbm, ⟨31, _⟩ => ⟨S2x8192x1024, .f32⟩
  | .hbm, ⟨32, _⟩ => ⟨S_, .f32⟩
  | .hbm, ⟨33, _⟩ => ⟨S2x8192x1024, .f32⟩
  | .hbm, ⟨34, _⟩ => ⟨S2x8192x1024, .f32⟩
  | .hbm, ⟨35, _⟩ => ⟨S_, .f32⟩
  | .hbm, ⟨36, _⟩ => ⟨S2x8192x1024, .f32⟩
  | .hbm, ⟨37, _⟩ => ⟨S2x8192x1024, .f32⟩
  | .hbm, ⟨38, _⟩ => ⟨S1024x1024, .f32⟩
  | .hbm, ⟨39, _⟩ => ⟨S2x8192x1024, .f32⟩
  | .hbm, ⟨40, _⟩ => ⟨S2x8192x1024, .f32⟩
  | .hbm, ⟨41, _⟩ => ⟨S512x1024, .f32⟩
  | .hbm, ⟨42, _⟩ => ⟨S2x8192x1024, .f32⟩
  | .hbm, ⟨43, _⟩ => ⟨S2x8192x1024, .f32⟩
  | .hbm, ⟨44, _⟩ => ⟨S2x8192x1024, .f32⟩
  | .hbm, ⟨45, _⟩ => ⟨S1024x1024, .f32⟩
  | .hbm, ⟨46, _⟩ => ⟨S2x8192x1024, .f32⟩
  | .hbm, ⟨47, _⟩ => ⟨S2x8192x1024, .f32⟩
  | .hbm, ⟨48, _⟩ => ⟨S1024, .f32⟩
  | .hbm, ⟨49, _⟩ => ⟨S2x8192x1024, .f32⟩
  | .hbm, ⟨50, _⟩ => ⟨S_, .f32⟩
  | .hbm, ⟨51, _⟩ => ⟨S2x8192, .f32⟩
  | .hbm, ⟨52, _⟩ => ⟨S2x8192x1, .f32⟩
  | .hbm, ⟨53, _⟩ => ⟨S_, .f32⟩
  | .hbm, ⟨54, _⟩ => ⟨S2x8192x1, .f32⟩
  | .hbm, ⟨55, _⟩ => ⟨S2x8192x1, .f32⟩
  | .hbm, ⟨56, _⟩ => ⟨S_, .f32⟩
  | .hbm, ⟨57, _⟩ => ⟨S2x8192x1, .f32⟩
  | .hbm, ⟨58, _⟩ => ⟨S2x8192x1, .f32⟩
  | .hbm, ⟨59, _⟩ => ⟨S2x8192x1, .f32⟩
  | .hbm, ⟨60, _⟩ => ⟨S2x8192x1024, .f32⟩
  | .hbm, ⟨61, _⟩ => ⟨S2x8192x1024, .f32⟩
  | .hbm, ⟨62, _⟩ => ⟨S1x1x1024, .f32⟩
  | .hbm, ⟨63, _⟩ => ⟨S2x8192x1024, .f32⟩
  | .hbm, ⟨64, _⟩ => ⟨S2x8192x1024, .f32⟩
  | .hbm, ⟨65, _⟩ => ⟨S16384x1024, .f32⟩
  | .hbm, ⟨66, _⟩ => ⟨S16384x1024, .f32⟩
  | .hbm, ⟨67, _⟩ => ⟨S16384x1024, .bf16⟩
  | .hbm, ⟨68, _⟩ => ⟨S1024x1024, .f32⟩
  | .hbm, ⟨69, _⟩ => ⟨S2x8192x1024, .f32⟩
  | .hbm, ⟨70, _⟩ => ⟨S16384x1024, .f32⟩
  | .hbm, ⟨71, _⟩ => ⟨S16384x1024, .bf16⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst : Ref sig .tc := ⟨.hbm, 19, rfl⟩
abbrev main_v9 : Ref sig .tc := ⟨.hbm, 20, rfl⟩
abbrev main_v10 : Ref sig .tc := ⟨.hbm, 21, rfl⟩
abbrev main_cst_0 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_1 : Ref sig .tc := ⟨.hbm, 32, rfl⟩
abbrev main_v20 : Ref sig .tc := ⟨.hbm, 33, rfl⟩
abbrev main_v21 : Ref sig .tc := ⟨.hbm, 34, rfl⟩
abbrev main_cst_2 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_3 : Ref sig .tc := ⟨.hbm, 50, rfl⟩
abbrev main_v36 : Ref sig .tc := ⟨.hbm, 51, rfl⟩
abbrev main_v37 : Ref sig .tc := ⟨.hbm, 52, rfl⟩
abbrev main_cst_4 : Ref sig .tc := ⟨.hbm, 53, rfl⟩
abbrev main_v38 : Ref sig .tc := ⟨.hbm, 54, rfl⟩
abbrev main_v39 : Ref sig .tc := ⟨.hbm, 55, rfl⟩
abbrev main_cst_5 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩

abbrev nD : Nat := 1
abbrev τ : Topo := Topo.v7x

variable {F : FTy → Type} [FloatOps F]
-- ==== Proof.DiffMath.lean ====
module
public import Idealize.ShloMosaic.PureOps.Ideal
public import Idealize.ShloMosaic.Lib.Pointwise

@[expose] public section

noncomputable section

namespace Cert.DiffMath

open Idealize.ShloMosaic
open scoped BigOperators

/-! The softmax average of the attention, over the reals, and the running (online) form of it: a running maximum, a running
    sum and running weighted sums, each rescaled when the maximum moves. -/

/-- The unnormalised weight of key `k` relative to the level `M`: zero where the key is not allowed. -/
def e (ok : ℕ → Prop) [DecidablePred ok] (s : ℕ → ℝ) (M : ℝ) (k : ℕ) : ℝ := if ok k then Real.exp (s k - M) else 0

/-- The softmax average of the values `v` over the allowed keys. -/
def att (N : ℕ) (ok : ℕ → Prop) [DecidablePred ok] (s : ℕ → ℝ) (v : ℕ → ℝ) : ℝ :=
  (∑ k ∈ Finset.range N, v k * e ok s 0 k) / ∑ k ∈ Finset.range N, e ok s 0 k

variable (ok : ℕ → Prop) [DecidablePred ok] (s : ℕ → ℝ)

theorem e_shift (M M' : ℝ) (k : ℕ) : Real.exp (M - M') * e ok s M k = e ok s M' k := by
  unfold e
  split
  · rw [← Real.exp_add]; congr 1; ring
  · simp

theorem e_nonneg (M : ℝ) (k : ℕ) : 0 ≤ e ok s M k := by
  unfold e; split
  · exact (Real.exp_pos _).le
  · exact le_rfl

theorem att_eq (N : ℕ) (v : ℕ → ℝ) (M : ℝ) :
    att N ok s v = (∑ k ∈ Finset.range N, v k * e ok s M k) / ∑ k ∈ Finset.range N, e ok s M k := by
  unfold att
  have h : ∀ k, e ok s 0 k = Real.exp (M - 0) * e ok s M k := fun k => (e_shift ok s M 0 k).symm
  have h2 : ∀ k, v k * e ok s 0 k = Real.exp (M - 0) * (v k * e ok s M k) := fun k => by rw [h k]; ring
  rw [Finset.sum_congr rfl fun k _ => h2 k, Finset.sum_congr rfl fun k _ => h k, ← Finset.mul_sum, ← Finset.mul_sum]
  exact mul_div_mul_left _ _ (Real.exp_pos _).ne'

/-- What the running state holds after the first `n` keys. -/
def Inv (v : Fin 128 → ℕ → ℝ) (n : ℕ) (m l : EReal) (acc : Fin 128 → EReal) : Prop :=
  (n = 0 ∧ m = ⊥ ∧ l = 0 ∧ ∀ d, acc d = 0) ∨
    ∃ M : ℝ, m = (M : EReal) ∧ l = ((∑ k ∈ Finset.range n, e ok s M k : ℝ) : EReal)
      ∧ ∀ d, acc d = ((∑ k ∈ Finset.range n, v d k * e ok s M k : ℝ) : EReal)

theorem exp_coe (x : ℝ) : Ideal.exp (x : EReal) = (Real.exp x : EReal) := rfl
theorem exp_bot : Ideal.exp ⊥ = 0 := rfl

theorem coe_sum {ι : Type} (t : Finset ι) (f : ι → ℝ) : ((∑ k ∈ t, f k : ℝ) : EReal) = ∑ k ∈ t, (f k : EReal) := by
  induction t using Finset.cons_induction with
  | empty => simp
  | cons a t ha ih => rw [Finset.sum_cons, Finset.sum_cons, EReal.coe_add, ih]

theorem exp_raw (raw : EReal) (n : ℕ) (sh M : ℝ) (hraw : raw = if ok n then ((s n - sh : ℝ) : EReal) else ⊥) :
    Ideal.exp (raw - ((M : EReal) - (sh : EReal))) = (e ok s M n : EReal) := by
  rw [hraw]; unfold e
  split
  · rw [← EReal.coe_sub, ← EReal.coe_sub, exp_coe]; congr 2; ring
  · rw [← EReal.coe_sub, EReal.bot_sub, exp_bot]; rfl

/-- One tile of 512 keys: the state moves from the first `n` keys to the first `n + 512`. -/
theorem step (v : Fin 128 → ℕ → ℝ) (n : ℕ) (m l : EReal) (acc : Fin 128 → EReal) (h : Inv ok s v n m l acc)
    (raw : Fin 512 → EReal) (sh : ℝ)
    (hraw : ∀ kk : Fin 512, raw kk = if ok (n + kk.val) then ((s (n + kk.val) - sh : ℝ) : EReal) else ⊥)
    (vt : Fin 128 → Fin 512 → EReal) (hv : ∀ d kk, vt d kk = (v d (n + kk.val) : EReal)) (mx : EReal) (hmx : ∃ R : ℝ, mx = (R : EReal)) :
    Inv ok s v (n + 512) (max m (mx + (sh : EReal)))
      (Ideal.exp (m - max m (mx + (sh : EReal))) * l + ∑ kk : Fin 512, Ideal.exp (raw kk - (max m (mx + (sh : EReal)) - (sh : EReal))))
      (fun d => Ideal.exp (m - max m (mx + (sh : EReal))) * acc d
        + ∑ kk : Fin 512, vt d kk * Ideal.exp (raw kk - (max m (mx + (sh : EReal)) - (sh : EReal)))) := by
  obtain ⟨R, rfl⟩ := hmx
  rw [← EReal.coe_add]
  rcases h with ⟨rfl, rfl, rfl, h0⟩ | ⟨M, rfl, rfl, h0⟩
  · refine Or.inr ⟨R + sh, by simp, ?_, fun d => ?_⟩
    · rw [max_eq_right bot_le, Finset.sum_congr rfl fun kk _ => exp_raw ok s _ _ sh (R + sh) (hraw kk), mul_zero, zero_add, zero_add,
        Finset.sum_range, coe_sum]
      simp
    · dsimp only
      rw [max_eq_right bot_le, Finset.sum_congr rfl fun kk _ => congrArg₂ (· * ·) (hv d kk) (exp_raw ok s _ _ sh (R + sh) (hraw kk)), h0, mul_zero, zero_add, zero_add,
        Finset.sum_range, coe_sum]
      simp
  · have hM : max (M : EReal) ((R + sh : ℝ) : EReal) = ((max M (R + sh) : ℝ) : EReal) := (EReal.coe_strictMono.monotone.map_max).symm
    refine Or.inr ⟨max M (R + sh), hM, ?_, fun d => ?_⟩
    · rw [hM, Finset.sum_congr rfl fun kk _ => exp_raw ok s _ _ sh (max M (R + sh)) (hraw kk), ← EReal.coe_sub, exp_coe,
        ← EReal.coe_mul, ← coe_sum, ← EReal.coe_add, Finset.sum_range_add, Finset.mul_sum, Finset.sum_range (fun k => e ok s _ (n + k))]
      simp only [e_shift]
    · dsimp only
      rw [hM, Finset.sum_congr rfl fun kk _ => congrArg₂ (· * ·) (hv d kk) (exp_raw ok s _ _ sh (max M (R + sh)) (hraw kk)), ← EReal.coe_sub, exp_coe, h0,
        ← EReal.coe_mul, Finset.sum_congr rfl fun kk _ => (EReal.coe_mul _ _).symm, ← coe_sum, ← EReal.coe_add, Finset.sum_range_add, Finset.mul_sum, Finset.sum_range (fun k => v d (n + k) * e ok s _ (n + k))]
      congr 2
      exact Finset.sum_congr rfl fun k _ => by rw [← e_shift ok s M (max M (R + sh)) k]; ring

theorem div_coe (a b : ℝ) (hb : 0 < b) : Ideal.div (a : EReal) (b : EReal) = ((a / b : ℝ) : EReal) := by
  unfold Ideal.div
  rw [if_neg (by exact_mod_cast hb.ne'), ← EReal.coe_inv, ← EReal.coe_mul, div_eq_mul_inv]

theorem sum_pos (M : ℝ) (n : ℕ) (hok : ∃ k, k < n ∧ ok k) : 0 < ∑ k ∈ Finset.range n, e ok s M k := by
  obtain ⟨k, hk, hkk⟩ := hok
  refine Finset.sum_pos' (fun i _ => e_nonneg ok s M i) ⟨k, Finset.mem_range.2 hk, ?_⟩
  unfold e; rw [if_pos hkk]; exact Real.exp_pos _

/-- The end of the running form: weighted sum over plain sum is the softmax average. -/
theorem fin_div (N : ℕ) (v : Fin 128 → ℕ → ℝ) (n : ℕ) (m l : EReal) (acc : Fin 128 → EReal) (h : Inv ok s v n m l acc)
    (hok : ∃ k, k < n ∧ ok k) (hn : n ≤ N) (hno : ∀ k, n ≤ k → ¬ ok k) (d : Fin 128) :
    Ideal.div (acc d) l = (att N ok s (v d) : EReal) := by
  rcases h with ⟨rfl, _⟩ | ⟨M, rfl, rfl, h0⟩
  · obtain ⟨k, hk, _⟩ := hok; omega
  · rw [h0, div_coe _ _ (sum_pos ok s M n hok), att_eq ok s N (v d) M]
    have hz : ∀ k, n ≤ k → e ok s M k = 0 := fun k hk => by unfold e; rw [if_neg (hno k hk)]
    have h1 : ∑ k ∈ Finset.range n, e ok s M k = ∑ k ∈ Finset.range N, e ok s M k :=
      Finset.sum_subset (Finset.range_subset_range.2 hn) fun k _ hk => hz k (by simpa using hk)
    have h2 : ∑ k ∈ Finset.range n, v d k * e ok s M k = ∑ k ∈ Finset.range N, v d k * e ok s M k :=
      Finset.sum_subset (Finset.range_subset_range.2 hn) fun k _ hk => by rw [hz k (by simpa using hk), mul_zero]
    rw [h1, h2]

/-- The plain form: the values averaged with the difference of two softmaxes. -/
theorem plain (N : ℕ) (s2 : ℕ → ℝ) (v : ℕ → ℝ) (vv S1 S2 : Fin N → EReal) (lam M1 M2 : ℝ)
    (hv : ∀ k, vv k = (v k.val : EReal))
    (h1 : ∀ k : Fin N, S1 k = if ok k.val then ((s k.val : ℝ) : EReal) else ⊥)
    (h2 : ∀ k : Fin N, S2 k = if ok k.val then ((s2 k.val : ℝ) : EReal) else ⊥)
    (hok : ∃ k, k < N ∧ ok k) :
    ∑ k : Fin N, vv k * (Ideal.div (Ideal.exp (S1 k - (M1 : EReal))) (∑ j : Fin N, Ideal.exp (S1 j - (M1 : EReal)))
        - (lam : EReal) * Ideal.div (Ideal.exp (S2 k - (M2 : EReal))) (∑ j : Fin N, Ideal.exp (S2 j - (M2 : EReal))))
      = (att N ok s v : EReal) - (lam : EReal) * (att N ok s2 v : EReal) := by
  have g1 : ∀ k : Fin N, Ideal.exp (S1 k - (M1 : EReal)) = (e ok s M1 k.val : EReal) := fun k => by
    have := exp_raw ok s (S1 k) k.val 0 M1 (by rw [h1 k, sub_zero])
    rwa [EReal.coe_zero, sub_zero] at this
  have g2 : ∀ k : Fin N, Ideal.exp (S2 k - (M2 : EReal)) = (e ok s2 M2 k.val : EReal) := fun k => by
    have := exp_raw ok s2 (S2 k) k.val 0 M2 (by rw [h2 k, sub_zero])
    rwa [EReal.coe_zero, sub_zero] at this
  simp only [g1, g2, hv, ← coe_sum]
  have p1 : 0 < ∑ k : Fin N, e ok s M1 k.val := by rw [← Finset.sum_range]; exact sum_pos ok s M1 N hok
  have p2 : 0 < ∑ k : Fin N, e ok s2 M2 k.val := by rw [← Finset.sum_range]; exact sum_pos ok s2 M2 N hok
  simp only [div_coe _ _ p1, div_coe _ _ p2, ← EReal.coe_mul, ← EReal.coe_sub, ← coe_sum]
  rw [att_eq ok s N v M1, att_eq ok s2 N v M2]
  congr 1
  rw [Finset.sum_range, Finset.sum_range, Finset.sum_range, Finset.sum_range, Finset.sum_div, Finset.sum_div, Finset.mul_sum, ← Finset.sum_sub_distrib]
  exact Finset.sum_congr rfl fun k _ => by ring

/-- The maximum of finitely many scores, one of them real and none above the reals, is real. -/
theorem sup_real {n : ℕ} (S : Fin n → EReal) (h : ∀ k, S k ≠ ⊤) (h' : ∃ k, S k ≠ ⊥) :
    ∃ R : ℝ, (Finset.univ.sup S) = (R : EReal) := by
  have a : Finset.univ.sup S ≠ ⊤ := by
    intro hh
    obtain ⟨k0, hk0⟩ := h'
    obtain ⟨k, _, hk⟩ := Finset.exists_mem_eq_sup Finset.univ ⟨k0, Finset.mem_univ _⟩ S
    exact h k (hk ▸ hh)
  have b : Finset.univ.sup S ≠ ⊥ := by
    intro hh
    obtain ⟨k0, hk0⟩ := h'
    exact hk0 (le_bot_iff.1 (hh ▸ Finset.le_sup (f := S) (Finset.mem_univ k0)))
  exact ⟨(Finset.univ.sup S).toReal, (EReal.coe_toReal a b).symm⟩

end Cert.DiffMath
end
-- ==== Proof.DiffSpec.lean ====
module
public import proofs.«01_k».proof.DiffIdeal
public import proofs.«01_k».proof.Proof.DiffMath
public import Idealize.ShloMosaic.Lib.Pointwise

@[expose] public section

set_option maxRecDepth 16384

noncomputable section

namespace Cert.DiffSpec

open Idealize.ShloMosaic Cert.DiffIdeal Cert.DiffMath
open scoped BigOperators

/-- Key `k` is allowed for the query at `p`: its chunk of 64 is not later than the query's. -/
def okk (p k : ℕ) : Prop := k / 64 ≤ p / 64
instance (p : ℕ) : DecidablePred (okk p) := fun k => inferInstanceAs (Decidable (k / 64 ≤ p / 64))

/-- The slope of head `h`'s distance penalty: the halves' powers. -/
def slope (h : ℕ) : ℝ := (1 / 2) ^ (h + 1)

/-- An entry of a query or key array, as a real. -/
def at5 (Q : FVec Ideal S2x8192x8x2x64 .f32) (b : Fin 2) (p : ℕ) (h : Fin 8) (a : Fin 2) (c : Fin 64) : ℝ :=
  if hp : p < 8192 then (Q (ix5 b (⟨p, hp⟩ : Fin 8192) h a c) : EReal).toReal else 0

/-- An entry of the value array, as a real. -/
def vl (V : FVec Ideal S2x8192x8x128 .f32) (b : Fin 2) (h : Fin 8) (d : Fin 128) (p : ℕ) : ℝ :=
  if hp : p < 8192 then (V (ix4 b (⟨p, hp⟩ : Fin 8192) h d) : EReal).toReal else 0

variable (Q K : FVec Ideal S2x8192x8x2x64 .f32) (V : FVec Ideal S2x8192x8x128 .f32)
  (l1 l2 l3 l4 : FVec Ideal S64 .f32) (w : FVec Ideal S128 .f32)

/-- The score of key `k` for the query at `p`, in map `a` of head `h`: an eighth of the inner product, minus the slope
    times the distance. -/
def sc (b : Fin 2) (h : Fin 8) (a : Fin 2) (p k : ℕ) : ℝ :=
  (∑ c : Fin 64, at5 Q b p h a c * at5 K b k h a c) * (1 / 8) - slope h.val * |(p : ℝ) - (k : ℝ)|

/-- The weight of the second map. -/
def lam : EReal := Ideal.exp (∑ x : Fin 64, l1 (ix1 x) * l2 (ix1 x)) - Ideal.exp (∑ x : Fin 64, l3 (ix1 x) * l4 (ix1 x))
  + Ideal.ofBits .f32 0x3E4CCCCD#32

/-- The difference of the two maps' softmax averages. -/
def xx (b : Fin 2) (p : ℕ) (h : Fin 8) (d : Fin 128) : EReal :=
  (att 8192 (okk p) (sc Q K b h 0 p) (vl V b h d) : EReal)
    - lam l1 l2 l3 l4 * (att 8192 (okk p) (sc Q K b h 1 p) (vl V b h d) : EReal)

/-- … normalised over the head's features and weighted. -/
def yy (b : Fin 2) (p : ℕ) (h : Fin 8) (d : Fin 128) : EReal :=
  xx Q K V l1 l2 l3 l4 b p h d * Ideal.rsqrt (Ideal.div (∑ x : Fin 128, xx Q K V l1 l2 l3 l4 b p h x * xx Q K V l1 l2 l3 l4 b p h x)
    (Ideal.ofBits .f32 0x43000000#32) + Ideal.ofBits .f32 0x358637BD#32) * w (ix1 d) * Ideal.ofBits .f32 0x3F4CCCCD#32

/-- The result: heads side by side, positions of both batch entries as rows. -/
def G : FVec Ideal S16384x1024 .bf16 := fun i =>
  yy Q K V l1 l2 l3 l4 w (⟨(i 0).val / 8192, by have : (i 0).val < 16384 := (i 0).isLt; omega⟩ : Fin 2) ((i 0).val % 8192)
    (⟨(i 1).val / 128, by have : (i 1).val < 1024 := (i 1).isLt; omega⟩ : Fin 8) (⟨(i 1).val % 128, by omega⟩ : Fin 128)

/-- Every entry of an array is a real. -/
def Fine {s : Shape} (x : FVec Ideal s .f32) : Prop := ∀ i, ∃ r : ℝ, (x i : EReal) = (r : EReal)

theorem at5_eq (hQ : Fine Q) (b : Fin 2) (p : ℕ) (hp : p < 8192) (h : Fin 8) (a : Fin 2) (c : Fin 64) :
    (Q (ix5 b (⟨p, hp⟩ : Fin 8192) h a c) : EReal) = (at5 Q b p h a c : EReal) := by
  obtain ⟨r, hr⟩ := hQ (ix5 b (⟨p, hp⟩ : Fin 8192) h a c)
  unfold at5
  rw [dif_pos hp, hr, EReal.toReal_coe]

theorem vl_eq (hV : Fine V) (b : Fin 2) (p : ℕ) (hp : p < 8192) (h : Fin 8) (d : Fin 128) :
    (V (ix4 b (⟨p, hp⟩ : Fin 8192) h d) : EReal) = (vl V b h d p : EReal) := by
  obtain ⟨r, hr⟩ := hV (ix4 b (⟨p, hp⟩ : Fin 8192) h d)
  unfold vl
  rw [dif_pos hp, hr, EReal.toReal_coe]

theorem ofBits_fifth : ∃ r : ℝ, Ideal.ofBits .f32 0x3E4CCCCD#32 = (r : EReal) :=
  ⟨_, by simp [Ideal.ofBits, Ideal.ieee, -EReal.coe_mul]; rfl⟩

theorem ofBits_eighth : Ideal.ofBits .f32 0x3E000000#32 = ((1 / 8 : ℝ) : EReal) := by
  simp [Ideal.ofBits, Ideal.ieee, -EReal.coe_mul]; norm_num

theorem ofBits_ninf : Ideal.ofBits .f32 0xFF800000#32 = (⊥ : EReal) := by
  simp [Ideal.ofBits, Ideal.ieee, -EReal.coe_mul]

theorem lam_real (h1 : Fine l1) (h2 : Fine l2) (h3 : Fine l3) (h4 : Fine l4) : ∃ r : ℝ, lam l1 l2 l3 l4 = (r : EReal) := by
  have hs : ∀ (u v : FVec Ideal S64 .f32), Fine u → Fine v → ∃ r : ℝ, Ideal.exp (∑ x : Fin 64, u (ix1 x) * v (ix1 x)) = (r : EReal) := by
    intro u v hu hv
    choose fu hfu using hu
    choose fv hfv using hv
    refine ⟨Real.exp (∑ x : Fin 64, fu (ix1 x) * fv (ix1 x)), ?_⟩
    rw [Finset.sum_congr rfl fun x _ => by rw [hfu, hfv, ← EReal.coe_mul], ← coe_sum, exp_coe]
  obtain ⟨r1, e1⟩ := hs l1 l2 h1 h2
  obtain ⟨r2, e2⟩ := hs l3 l4 h3 h4
  obtain ⟨r3, e3⟩ := ofBits_fifth
  exact ⟨r1 - r2 + r3, by unfold lam; rw [e1, e2, e3, ← EReal.coe_sub, ← EReal.coe_add]⟩

/-- The eight slopes, as the constants the table holds. -/
theorem slope_table : Ideal.ofBits .f32 0x3F000000#32 = (slope 0 : EReal) ∧ Ideal.ofBits .f32 0x3E800000#32 = (slope 1 : EReal)
    ∧ Ideal.ofBits .f32 0x3E000000#32 = (slope 2 : EReal) ∧ Ideal.ofBits .f32 0x3D800000#32 = (slope 3 : EReal)
    ∧ Ideal.ofBits .f32 0x3D000000#32 = (slope 4 : EReal) ∧ Ideal.ofBits .f32 0x3C800000#32 = (slope 5 : EReal)
    ∧ Ideal.ofBits .f32 0x3C000000#32 = (slope 6 : EReal) ∧ Ideal.ofBits .f32 0x3B800000#32 = (slope 7 : EReal) := by
  refine ⟨?_, ?_, ?_, ?_, ?_, ?_, ?_, ?_⟩ <;> (simp [Ideal.ofBits, Ideal.ieee, slope, -EReal.coe_mul, -EReal.coe_pow]; norm_num)

end Cert.DiffSpec
end
-- ==== Proof.DiffPayA.lean ====
module
public import proofs.«01_k».proof.Proof.DiffSpec
public import proofs.«01_k».proof.Proof.Gen.DiffIdeal.Value
public import Idealize.ShloMosaic.Lib.Pipeline.ValueKit
public import Idealize.ShloMosaic.Lib.Pointwise
public import Idealize.ShloMosaic.Lib.Claim

@[expose] public section

set_option maxRecDepth 16384

noncomputable section

namespace Cert.DiffIdeal.Val

open Cert.DiffIdeal Cert.DiffIdeal.Gen Idealize.ShloMosaic Idealize.ShloMosaic.TcCoe Idealize.SL.Sem
open Idealize.ShloMosaic.Pipeline (Dat)
open Cert.DiffMath Cert.DiffSpec
open scoped BigOperators

/-- Column `r` of map `a`: the two maps stand side by side. -/
def col (a : Fin 2) (r : Fin 512) : Fin 1024 := ⟨a.val * 512 + r.val, by omega⟩
theorem col0 (r : Fin 512) : col 0 r = ⟨r.val, by omega⟩ := Fin.ext (by simp [col])
theorem col1 (r : Fin 512) : col 1 r = ⟨512 + r.val, by omega⟩ := Fin.ext (by simp [col])
/-- Feature `c` of map `a` in a head's 128 columns. -/
def lane (a : Fin 2) (c : Fin 64) : Fin 128 := ⟨a.val * 64 + c.val, by omega⟩

variable (x0 : FVec Ideal S512x128 .bf16) (kb : FVec Ideal S512x128 .bf16) (off : FVec Ideal S512x512 .f32)

/-- The score of key `kk` of a tile for query `r` of the block in map `a`, with the tile's bias. -/
def raw (a : Fin 2) (r kk : Fin 512) : EReal := (∑ c : Fin 64, kb (ix2 kk (lane a c)) * x0 (ix2 r (lane a c))) + off (ix2 kk r)

theorem slt_at : ∀ c : Fin 128, IntOp.cmpi .slt (BitVec.ofNat 32 c.val) 64#32 = if c.val < 64 then 1#1 else 0#1 := by decide +kernel
theorem sge_at : ∀ c : Fin 128, IntOp.cmpi .sge (BitVec.ofNat 32 c.val) 64#32 = if c.val < 64 then 0#1 else 1#1 := by decide +kernel

theorem pay9_lo (r : Fin 512) (c : Fin 128) : k0_pay9 (F := Ideal) x0 (ix2 (⟨r.val, by omega⟩ : Fin 1024) c) = if c.val < 64 then x0 (ix2 r c) else 0 := by
  have h : k0_pay9 (F := Ideal) x0 (ix2 (⟨r.val, by omega⟩ : Fin 1024) c) = Scalar.select (IntOp.cmpi .slt (BitVec.ofNat 32 c.val) 64#32) (x0 (ix2 r c)) (0 : EReal) := by
    pointwise [k0_pay9]
  rw [h, slt_at]
  by_cases hc : c.val < 64 <;> simp [hc, Scalar.select]
theorem pay9_hi (r : Fin 512) (c : Fin 128) : k0_pay9 (F := Ideal) x0 (ix2 (⟨512 + r.val, by omega⟩ : Fin 1024) c) = if c.val < 64 then 0 else x0 (ix2 r c) := by
  have h : k0_pay9 (F := Ideal) x0 (ix2 (⟨512 + r.val, by omega⟩ : Fin 1024) c) = Scalar.select (IntOp.cmpi .sge (BitVec.ofNat 32 c.val) 64#32) (x0 (ix2 r c)) (0 : EReal) := by
    pointwise [k0_pay9]
  rw [h, sge_at]
  by_cases hc : c.val < 64 <;> simp [hc, Scalar.select]

theorem sum_lo (f g : Fin 128 → EReal) : ∑ x : Fin 128, f x * (if x.val < 64 then g x else 0) = ∑ c : Fin 64, f (lane 0 c) * g (lane 0 c) := by
  rw [Fin.sum_univ_add (a := 64) (b := 64) (fun x : Fin (64 + 64) => f x * (if x.val < 64 then g x else 0))]
  have h2 : ∑ i : Fin 64, f (Fin.natAdd 64 i) * (if (Fin.natAdd 64 i : Fin (64 + 64)).val < 64 then g (Fin.natAdd 64 i) else 0) = 0 :=
    Finset.sum_eq_zero fun i _ => by rw [if_neg (by simp), mul_zero]
  have h1 : ∑ i : Fin 64, f (Fin.castAdd 64 i) * (if (Fin.castAdd 64 i : Fin (64 + 64)).val < 64 then g (Fin.castAdd 64 i) else 0) = ∑ c : Fin 64, f (lane 0 c) * g (lane 0 c) :=
    Finset.sum_congr rfl fun i _ => by
      have hl : (Fin.castAdd 64 i : Fin (64 + 64)) = lane 0 i := Fin.ext (by simp [lane])
      rw [if_pos (by simp), hl]
  rw [h2, h1, add_zero]
theorem sum_hi (f g : Fin 128 → EReal) : ∑ x : Fin 128, f x * (if x.val < 64 then 0 else g x) = ∑ c : Fin 64, f (lane 1 c) * g (lane 1 c) := by
  rw [Fin.sum_univ_add (a := 64) (b := 64) (fun x : Fin (64 + 64) => f x * (if x.val < 64 then 0 else g x))]
  have h1 : ∑ i : Fin 64, f (Fin.castAdd 64 i) * (if (Fin.castAdd 64 i : Fin (64 + 64)).val < 64 then 0 else g (Fin.castAdd 64 i)) = 0 :=
    Finset.sum_eq_zero fun i _ => by rw [if_pos (by simp), mul_zero]
  have h2 : ∑ i : Fin 64, f (Fin.natAdd 64 i) * (if (Fin.natAdd 64 i : Fin (64 + 64)).val < 64 then 0 else g (Fin.natAdd 64 i)) = ∑ c : Fin 64, f (lane 1 c) * g (lane 1 c) :=
    Finset.sum_congr rfl fun i _ => by
      have hl : (Fin.natAdd 64 i : Fin (64 + 64)) = lane 1 i := Fin.ext (by simp [lane]; omega)
      rw [if_neg (by simp), hl]
  rw [h2, h1, zero_add]

/-- A tile's scores, column by column. -/
theorem pay14_at (kk r : Fin 512) (a : Fin 2) : k0_pay14 (F := Ideal) x0 kb off (ix2 kk (col a r)) = raw x0 kb off a r kk := by
  match a with
  | 0 =>
    have h : k0_pay14 (F := Ideal) x0 kb off (ix2 kk (⟨r.val, by omega⟩ : Fin 1024))
        = (∑ x : Fin 128, kb (ix2 kk x) * k0_pay9 (F := Ideal) x0 (ix2 (⟨r.val, by omega⟩ : Fin 1024) x)) + off (ix2 kk r) := by
      pointwise [k0_pay14]
    rw [col0, h, Finset.sum_congr rfl fun x _ => congrArg (kb (ix2 kk x) * ·) (pay9_lo x0 r x), sum_lo]; rfl
  | 1 =>
    have h : k0_pay14 (F := Ideal) x0 kb off (ix2 kk (⟨512 + r.val, by omega⟩ : Fin 1024))
        = (∑ x : Fin 128, kb (ix2 kk x) * k0_pay9 (F := Ideal) x0 (ix2 (⟨512 + r.val, by omega⟩ : Fin 1024) x)) + off (ix2 kk r) := by
      pointwise [k0_pay14]
    rw [col1, h, Finset.sum_congr rfl fun x _ => congrArg (kb (ix2 kk x) * ·) (pay9_hi x0 r x), sum_hi]; rfl

/-- The last tile's inner products, column by column. -/
theorem pay28_at (kk r : Fin 512) (a : Fin 2) : k0_pay28 (F := Ideal) x0 kb (ix2 kk (col a r)) + off (ix2 kk r) = raw x0 kb off a r kk := by
  match a with
  | 0 =>
    have h : k0_pay28 (F := Ideal) x0 kb (ix2 kk (⟨r.val, by omega⟩ : Fin 1024))
        = (∑ x : Fin 128, kb (ix2 kk x) * k0_pay9 (F := Ideal) x0 (ix2 (⟨r.val, by omega⟩ : Fin 1024) x)) := by
      pointwise [k0_pay28]
    rw [col0, h, Finset.sum_congr rfl fun x _ => congrArg (kb (ix2 kk x) * ·) (pay9_lo x0 r x), sum_lo]; rfl
  | 1 =>
    have h : k0_pay28 (F := Ideal) x0 kb (ix2 kk (⟨512 + r.val, by omega⟩ : Fin 1024))
        = (∑ x : Fin 128, kb (ix2 kk x) * k0_pay9 (F := Ideal) x0 (ix2 (⟨512 + r.val, by omega⟩ : Fin 1024) x)) := by
      pointwise [k0_pay28]
    rw [col1, h, Finset.sum_congr rfl fun x _ => congrArg (kb (ix2 kk x) * ·) (pay9_hi x0 r x), sum_hi]; rfl

end Cert.DiffIdeal.Val
end
-- ==== Proof.DiffPayB.lean ====
module
public import proofs.«01_k».proof.Proof.DiffSpec
public import proofs.«01_k».proof.Proof.Gen.DiffIdeal.Value
public import Idealize.ShloMosaic.Lib.Pipeline.ValueKit
public import Idealize.ShloMosaic.Lib.Pointwise
public import Idealize.ShloMosaic.Lib.Claim

@[expose] public section

set_option maxRecDepth 16384

noncomputable section

namespace Cert.DiffIdeal.Val

open Cert.DiffIdeal Cert.DiffIdeal.Gen Idealize.ShloMosaic Idealize.ShloMosaic.TcCoe Idealize.SL.Sem
open Idealize.ShloMosaic.Pipeline (Dat)
open Cert.DiffMath Cert.DiffSpec
open scoped BigOperators

/-- The bits of a head's slope: the exponent field lowered by the head's number. -/
theorem slope_bits : ∀ h : Fin 8, IntOp.shli ArithUnit.vector (Scalar.subi 126#32 (BitVec.ofNat 32 h.val)) 23#32
    = (![0x3F000000#32, 0x3E800000#32, 0x3E000000#32, 0x3D800000#32, 0x3D000000#32, 0x3C800000#32, 0x3C000000#32, 0x3B800000#32] : Fin 8 → BitVec 32) h := by
  decide +kernel
/-- … name the slope. -/
theorem slope_at (h : Fin 8) : Ideal.ofBits .f32 (IntOp.shli ArithUnit.vector (Scalar.subi 126#32 (BitVec.ofNat 32 h.val)) 23#32) = ((slope h.val : ℝ) : EReal) := by
  obtain ⟨s0, s1, s2, s3, s4, s5, s6, s7⟩ := slope_table
  rw [slope_bits]
  match h with
  | 0 => exact s0
  | 1 => exact s1
  | 2 => exact s2
  | 3 => exact s3
  | 4 => exact s4
  | 5 => exact s5
  | 6 => exact s6
  | 7 => exact s7

variable (i : grid0.Coords)

theorem pay7_at : k0_pay7 (F := Ideal) i (ix2 (0 : Fin 1) (0 : Fin 1)) = ((slope (i 1).val : ℝ) : EReal) := by
  have h : k0_pay7 (F := Ideal) i (ix2 (0 : Fin 1) (0 : Fin 1)) = Ideal.ofBits .f32 (IntOp.shli ArithUnit.vector (Scalar.subi 126#32 (BitVec.ofNat 32 (i 1).val)) 23#32) := by
    pointwise [k0_pay7]
  rw [h]; exact slope_at (i 1)

theorem toInt_at : ∀ x : Fin 512, (BitVec.ofNat 32 x.val).toInt = (x.val : ℤ) := by decide +kernel
theorem sub_toInt (r kk : Fin 512) : (IntOp.subi (BitVec.ofNat 32 r.val) (BitVec.ofNat 32 kk.val)).toInt = (r.val : ℤ) - (kk.val : ℤ) := by
  have h1 := r.isLt
  have h2 := kk.isLt
  unfold IntOp.subi
  rw [BitVec.toInt_sub, toInt_at, toInt_at, Int.bmod_def]
  have h : ((2 ^ 32 : ℕ) : ℤ) = 4294967296 := by norm_num
  simp only [h]
  split <;> omega

/-- The bias of a tile off the diagonal: minus the slope times the (signed) offset within the tile. -/
theorem pay3_at (kk r : Fin 512) : k0_pay3 (F := Ideal) (k0_pay7 i) (ix2 kk r) = ((-(slope (i 1).val) * ((r.val : ℝ) - (kk.val : ℝ)) : ℝ) : EReal) := by
  have h : k0_pay3 (F := Ideal) (k0_pay7 i) (ix2 kk r) = (0 - k0_pay7 (F := Ideal) i (ix2 (0 : Fin 1) (0 : Fin 1))) * (((IntOp.subi (BitVec.ofNat 32 r.val) (BitVec.ofNat 32 kk.val)).toInt : ℝ) : EReal) := by
    pointwise [k0_pay3, k0_pay2]
    rfl
  rw [h, pay7_at, sub_toInt, zero_sub, ← EReal.coe_neg, ← EReal.coe_mul]
  push_cast
  rfl

/-- The chunk of a row number, as the kernel computes it. -/
def fdiv (x : BitVec 32) : BitVec 32 :=
  Scalar.select (IntOp.andi (IntOp.cmpi .ne (IntOp.subi ((IntOp.cmpi .sgt x 0#32).setWidth 32) ((IntOp.cmpi .slt x 0#32).setWidth 32))
    (Scalar.subi (Scalar.extui (Scalar.cmpi .sgt 64#32 0#32)) (Scalar.extui (Scalar.cmpi .slt 64#32 0#32))))
    (IntOp.cmpi .ne (IntOp.remsi ArithUnit.vector x 64#32) 0#32))
    (IntOp.subi (IntOp.divsi ArithUnit.vector x 64#32) 1#32) (IntOp.divsi ArithUnit.vector x 64#32)
theorem fdiv_at : ∀ x : Fin 512, fdiv (BitVec.ofNat 32 x.val) = BitVec.ofNat 32 (x.val / 64) := by decide +kernel
theorem sle_at : ∀ x y : Fin 8, IntOp.cmpi .sle (BitVec.ofNat 32 x.val) (BitVec.ofNat 32 y.val) = if x.val ≤ y.val then 1#1 else 0#1 := by decide +kernel

theorem mask_bot (b : BitVec 32) : (Named.named (F := Ideal) κ "mask" (φ := .f32) b : EReal) = ⊥ := rfl

/-- The diagonal tile's bias: minus the slope times the distance where the key's chunk is allowed, nothing elsewhere. -/
theorem pay8_at (kk r : Fin 512) :
    k0_pay8 (F := Ideal) i (iota .tc S512x512 32 [1] iota_S512x512_d1_w32) (k0_pay2 (F := Ideal)) k0_pay4 64#32 k0_pay5 k0_pay6 1#1 (ix2 kk r)
      = if kk.val / 64 ≤ r.val / 64 then ((-(slope (i 1).val) * |(r.val : ℝ) - (kk.val : ℝ)| : ℝ) : EReal) else ⊥ := by
  have h : k0_pay8 (F := Ideal) i (iota .tc S512x512 32 [1] iota_S512x512_d1_w32) (k0_pay2 (F := Ideal)) k0_pay4 64#32 k0_pay5 k0_pay6 1#1 (ix2 kk r)
      = Scalar.select (IntOp.cmpi .sle (fdiv (BitVec.ofNat 32 kk.val)) (fdiv (BitVec.ofNat 32 r.val)))
        ((0 - k0_pay7 (F := Ideal) i (ix2 (0 : Fin 1) (0 : Fin 1))) * max (((IntOp.subi (BitVec.ofNat 32 r.val) (BitVec.ofNat 32 kk.val)).toInt : ℝ) : EReal) (-(((IntOp.subi (BitVec.ofNat 32 r.val) (BitVec.ofNat 32 kk.val)).toInt : ℝ) : EReal)))
        (⊥ : EReal) := by
    pointwise [k0_pay8, k0_pay2, k0_pay4, k0_pay5, k0_pay6]
    rfl
  rw [h, fdiv_at, fdiv_at, sle_at ⟨kk.val / 64, by omega⟩ ⟨r.val / 64, by omega⟩, pay7_at, sub_toInt, zero_sub, ← EReal.coe_neg, ← EReal.coe_neg,
    ← EReal.coe_strictMono.monotone.map_max, ← EReal.coe_mul]
  push_cast
  by_cases hc : kk.val / 64 ≤ r.val / 64
  · rw [if_pos hc, if_pos hc]; exact if_pos rfl
  · rw [if_neg hc, if_neg hc]; exact if_neg (by decide)

/-- The shift of a tile off the diagonal: minus the slope times the distance of the tiles. -/
theorem pay13_raw (k : Fin (k0_t1_loop i).trips) : k0_pay13 (F := Ideal) i k (ix2 (0 : Fin 1) (0 : Fin 1))
    = (0 - k0_pay7 (F := Ideal) i (ix2 (0 : Fin 1) (0 : Fin 1))) * (((Scalar.muli (Scalar.subi (BitVec.ofNat 32 (i 2).val) (Scf.iv 0#32 1#32 k.val)) 512#32).toInt : ℝ) : EReal) := by
  pointwise [k0_pay13]

theorem trips_at : ∀ z : Fin 16, Scf.trips 0#32 (Scalar.addi 0#32 (Scalar.muli (Scalar.divsi (Scalar.subi (BitVec.ofNat 32 z.val) 0#32) 1#32) 1#32)) 1#32 = z.val := by
  decide +kernel
theorem trips1 : (k0_t1_loop i).trips = (i 2).val := trips_at (i 2)
theorem shift_at : ∀ z k : Fin 16, k.val < z.val →
    (Scalar.muli (Scalar.subi (BitVec.ofNat 32 z.val) (Scf.iv 0#32 1#32 k.val)) 512#32).toInt = ((z.val : ℤ) - (k.val : ℤ)) * 512 := by
  decide +kernel
theorem pay13_at (k : Fin (k0_t1_loop i).trips) : k0_pay13 (F := Ideal) i k (ix2 (0 : Fin 1) (0 : Fin 1))
    = ((-(slope (i 1).val) * ((((i 2).val : ℝ) - (k.val : ℝ)) * 512) : ℝ) : EReal) := by
  have hk : k.val < (i 2).val := (trips1 i) ▸ k.isLt
  have hz : (i 2).val < 16 := (i 2).isLt
  rw [pay13_raw, pay7_at, shift_at (i 2) ⟨k.val, by omega⟩ hk, zero_sub, ← EReal.coe_neg, ← EReal.coe_mul]
  push_cast
  rfl

theorem off1_at (k : Fin (k0_t1_loop i).trips) : k0_off1 i k = ![k.val * 512, 0] := by
  have hk : k.val < (i 2).val := (trips1 i) ▸ k.isLt
  have hz : (i 2).val < 16 := (i 2).isLt
  exact (by decide +kernel : ∀ z : Fin 16, (![(Scalar.indexCast (Scalar.muli (Scf.iv 0#32 1#32 z.val) 512#32)).toNat, 0] : Fin 2 → ℕ) = ![z.val * 512, 0]) ⟨k.val, by omega⟩
theorem off2_at (k : Fin (k0_t1_loop i).trips) : k0_off2 i k = ![k.val, 0, 0] := by
  have hk : k.val < (i 2).val := (trips1 i) ▸ k.isLt
  have hz : (i 2).val < 16 := (i 2).isLt
  exact (by decide +kernel : ∀ z : Fin 16, (![(Scalar.indexCast (Scf.iv 0#32 1#32 z.val)).toNat, 0, 0] : Fin 3 → ℕ) = ![z.val, 0, 0]) ⟨k.val, by omega⟩
theorem off5_at : k0_off5 i = ![(i 2).val * 512, 0] :=
  (by decide +kernel : ∀ z : Fin 16, (![(Scalar.indexCast (Scalar.muli (BitVec.ofNat 32 z.val) 512#32)).toNat, 0] : Fin 2 → ℕ) = ![z.val * 512, 0]) (i 2)
theorem off6_at : k0_off6 i = ![(i 2).val, 0, 0] :=
  (by decide +kernel : ∀ z : Fin 16, (![(Scalar.indexCast (BitVec.ofNat 32 z.val)).toNat, 0, 0] : Fin 3 → ℕ) = ![z.val, 0, 0]) (i 2)

end Cert.DiffIdeal.Val
end
-- ==== Proof.DiffBlk.lean ====
module
public import proofs.«01_k».proof.Proof.DiffPayA
public import proofs.«01_k».proof.Proof.DiffPayB
public import Idealize.ShloMosaic.Lib.Pipeline.ValueKit
public import Idealize.ShloMosaic.Lib.Pointwise
public import Idealize.ShloMosaic.Lib.Claim

@[expose] public section

set_option maxRecDepth 16384

noncomputable section

namespace Cert.DiffIdeal.Val

open Cert.DiffIdeal Cert.DiffIdeal.Gen Idealize.ShloMosaic Idealize.ShloMosaic.TcCoe Idealize.SL.Sem
open Idealize.ShloMosaic.Pipeline (Dat)
open Cert.DiffMath Cert.DiffSpec
open scoped BigOperators

variable (m : (ℓ : Loc nD τ sig) → Buf (Elt Ideal) ℓ)

theorem idx : ∀ t : Fin cfg0.N, win0_0.index t = ![t.val / 128 * 16 + t.val % 16, t.val / 16 % 8] ∧ win0_1.index t = ![t.val / 128, t.val / 16 % 8]
    ∧ win0_2.index t = ![t.val / 128, t.val / 16 % 8, 0] ∧ win0_3.index t = ![0, 0] ∧ win0_4.index t = ![0, 0]
    ∧ win0_5.index t = ![t.val / 128 * 16 + t.val % 16, t.val / 16 % 8] :=
  (by decide +kernel : ∀ t : Fin grid0.N, _)
theorem tlt (t : Fin cfg0.N) : t.val < 256 := t.isLt
theorem crd : ∀ t : Fin cfg0.N, ((grid0.coords t) 1).val = t.val / 16 % 8 ∧ ((grid0.coords t) 2).val = t.val % 16 :=
  (by decide +kernel : ∀ t : Fin grid0.N, _)

/-- The batch entry, head and block of a grid point. -/
def tb (t : Fin cfg0.N) : Fin 2 := ⟨t.val / 128, by have := tlt t; omega⟩
def th (t : Fin cfg0.N) : Fin 8 := ⟨t.val / 16 % 8, by omega⟩
/-- The position of row `r` of a grid point's block. -/
def tp (t : Fin cfg0.N) (r : Fin 512) : Fin 8192 := ⟨t.val % 16 * 512 + r.val, by omega⟩

/-- The arguments, at their types. -/
abbrev Q (c : Dev nD) : FVec Ideal S2x8192x8x2x64 .f32 := m ((c : Thread nD τ).loc main_arg0)
abbrev K (c : Dev nD) : FVec Ideal S2x8192x8x2x64 .f32 := m ((c : Thread nD τ).loc main_arg1)
abbrev Vv (c : Dev nD) : FVec Ideal S2x8192x8x128 .f32 := m ((c : Thread nD τ).loc main_arg2)

/-- Rows and columns of the flattened arrays. -/
def rw' (b : Fin 2) (p : Fin 8192) : Fin 16384 := ⟨b.val * 8192 + p.val, by omega⟩
def cl (h : Fin 8) (cc : Fin 128) : Fin 1024 := ⟨h.val * 128 + cc.val, by omega⟩

theorem v3_at (c : Dev nD) (b : Fin 2) (p : Fin 8192) (h : Fin 8) (a : Fin 2) (x : Fin 64) :
    V m c main_v3 (ix2 (rw' b p) (cl h (lane a x))) = (Q m c (ix5 b p h a x) * Ideal.ofBits .f32 0x3E000000#32 : EReal) := by
  unfold rw' cl lane
  entry_read
  pointwise
theorem v5_at (c : Dev nD) (b : Fin 2) (p : Fin 8192) (h : Fin 8) (a : Fin 2) (x : Fin 64) :
    V m c main_v5 (ix2 (rw' b p) (cl h (lane a x))) = K m c (ix5 b p h a x) := by
  unfold rw' cl lane
  entry_read
  pointwise
theorem v8_at (c : Dev nD) (b : Fin 2) (j : Fin 16) (kk : Fin 512) (h : Fin 8) (d : Fin 128) :
    V m c main_v8 (ix3 (⟨b.val * 16 + j.val, by omega⟩ : Fin 32) (cl h d) kk)
      = Vv m c (ix4 b (⟨j.val * 512 + kk.val, by omega⟩ : Fin 8192) h d) := by
  unfold cl
  entry_read
  pointwise
  refine congrArg (Vv m c) ?_
  congr 1 <;> exact Fin.ext (by dsimp only; omega)
/-- The four vectors of the second map's weight, stacked. -/
theorem v13_eq (c : Dev nD) : V m c main_v13 = concatenate S4x64 0 [⟨S1x64, (V m c main_v9 : (⟨S1x64, .f32⟩ : BufTy).Contents (Elt Ideal))⟩, ⟨S1x64, (V m c main_v10 : (⟨S1x64, .f32⟩ : BufTy).Contents (Elt Ideal))⟩, ⟨S1x64, (V m c main_v11 : (⟨S1x64, .f32⟩ : BufTy).Contents (Elt Ideal))⟩, ⟨S1x64, (V m c main_v12 : (⟨S1x64, .f32⟩ : BufTy).Contents (Elt Ideal))⟩] concatenates_S1x64_S1x64_S1x64_S1x64_S4x64_d0 := by
  rfl
theorem v9_at (c : Dev nD) (x : Fin 64) : V m c main_v9 (ix2 (0 : Fin 1) x) = m ((c : Thread nD τ).loc main_arg3) (ix1 x) := by
  entry_read
  pointwise
theorem cat0 (x0 x1 x2 x3 : FVec Ideal S1x64 .f32) (x : Fin 64) (h) : (concatenate S4x64 0 [⟨S1x64, x0⟩, ⟨S1x64, x1⟩, ⟨S1x64, x2⟩, ⟨S1x64, x3⟩] h : FVec Ideal S4x64 .f32) (ix2 (0 : Fin 4) x) = x0 (ix2 (0 : Fin 1) x) := by
  pointwise
theorem v13_0 (c : Dev nD) (x : Fin 64) : V m c main_v13 (ix2 (0 : Fin 4) x) = m ((c : Thread nD τ).loc main_arg3) (ix1 x) := by
  rw [v13_eq]
  exact (cat0 _ _ _ _ x _).trans (v9_at m c x)
theorem v10_at (c : Dev nD) (x : Fin 64) : V m c main_v10 (ix2 (0 : Fin 1) x) = m ((c : Thread nD τ).loc main_arg4) (ix1 x) := by
  entry_read
  pointwise
theorem cat1 (x0 x1 x2 x3 : FVec Ideal S1x64 .f32) (x : Fin 64) (h) : (concatenate S4x64 0 [⟨S1x64, x0⟩, ⟨S1x64, x1⟩, ⟨S1x64, x2⟩, ⟨S1x64, x3⟩] h : FVec Ideal S4x64 .f32) (ix2 (1 : Fin 4) x) = x1 (ix2 (0 : Fin 1) x) := by
  pointwise
theorem v13_1 (c : Dev nD) (x : Fin 64) : V m c main_v13 (ix2 (1 : Fin 4) x) = m ((c : Thread nD τ).loc main_arg4) (ix1 x) := by
  rw [v13_eq]
  exact (cat1 _ _ _ _ x _).trans (v10_at m c x)
theorem v11_at (c : Dev nD) (x : Fin 64) : V m c main_v11 (ix2 (0 : Fin 1) x) = m ((c : Thread nD τ).loc main_arg5) (ix1 x) := by
  entry_read
  pointwise
theorem cat2 (x0 x1 x2 x3 : FVec Ideal S1x64 .f32) (x : Fin 64) (h) : (concatenate S4x64 0 [⟨S1x64, x0⟩, ⟨S1x64, x1⟩, ⟨S1x64, x2⟩, ⟨S1x64, x3⟩] h : FVec Ideal S4x64 .f32) (ix2 (2 : Fin 4) x) = x2 (ix2 (0 : Fin 1) x) := by
  pointwise
theorem v13_2 (c : Dev nD) (x : Fin 64) : V m c main_v13 (ix2 (2 : Fin 4) x) = m ((c : Thread nD τ).loc main_arg5) (ix1 x) := by
  rw [v13_eq]
  exact (cat2 _ _ _ _ x _).trans (v11_at m c x)
theorem v12_at (c : Dev nD) (x : Fin 64) : V m c main_v12 (ix2 (0 : Fin 1) x) = m ((c : Thread nD τ).loc main_arg6) (ix1 x) := by
  entry_read
  pointwise
theorem cat3 (x0 x1 x2 x3 : FVec Ideal S1x64 .f32) (x : Fin 64) (h) : (concatenate S4x64 0 [⟨S1x64, x0⟩, ⟨S1x64, x1⟩, ⟨S1x64, x2⟩, ⟨S1x64, x3⟩] h : FVec Ideal S4x64 .f32) (ix2 (3 : Fin 4) x) = x3 (ix2 (0 : Fin 1) x) := by
  pointwise
theorem v13_3 (c : Dev nD) (x : Fin 64) : V m c main_v13 (ix2 (3 : Fin 4) x) = m ((c : Thread nD τ).loc main_arg6) (ix1 x) := by
  rw [v13_eq]
  exact (cat3 _ _ _ _ x _).trans (v12_at m c x)
theorem v14_at (c : Dev nD) (d : Fin 128) : V m c main_v14 (ix2 d (0 : Fin 1)) = m ((c : Thread nD τ).loc main_arg7) (ix1 d) := by
  entry_read
  pointwise

theorem blk0 (c : Dev nD) (t : Fin cfg0.N) (r : Fin 512) (cc : Fin 128) : iblk m c 0 t (ix2 r cc)
    = V m c main_v3 (ix2 (rw' (tb t) (tp t r)) (cl (th t) cc)) := by
  unfold rw' cl tb th tp
  blk_ext [iblk, idx t]
theorem blk1 (c : Dev nD) (t : Fin cfg0.N) (r : Fin 8192) (cc : Fin 128) : iblk m c 1 t (ix2 r cc)
    = V m c main_v5 (ix2 (rw' (tb t) r) (cl (th t) cc)) := by
  unfold rw' cl tb th
  blk_ext [iblk, idx t]
theorem blk2 (c : Dev nD) (t : Fin cfg0.N) (j : Fin 16) (d : Fin 128) (kk : Fin 512) : iblk m c 2 t (ix3 j d kk)
    = V m c main_v8 (ix3 (⟨(tb t).val * 16 + j.val, by omega⟩ : Fin 32) (cl (th t) d) kk) := by
  unfold cl tb th
  blk_ext [iblk, idx t]
theorem blk3 (c : Dev nD) (t : Fin cfg0.N) (j : Fin 4) (x : Fin 64) : iblk m c 3 t (ix2 j x) = V m c main_v13 (ix2 j x) := by
  blk_ext [iblk, idx t]
theorem blk4 (c : Dev nD) (t : Fin cfg0.N) (d : Fin 128) : iblk m c 4 t (ix2 d (0 : Fin 1)) = V m c main_v14 (ix2 d (0 : Fin 1)) := by
  blk_ext [iblk, idx t]

/-- What a rectangle of whole rows of the keys' block reads. -/
theorem ld1 (X : Vec Ideal S8192x128 .bf16) (off : Fin 2 → ℕ) (n : ℕ) (ho : off = ![n * 512, 0]) (hin) (kk : Fin 512) (cc : Fin 128) (hn : n < 16) :
    View.ld (Val := Elt Ideal) (e' := .bf16) X (Rect.unit (s := S8192x128) off S512x128.size hin) (ix2 kk cc) = X (ix2 (⟨n * 512 + kk.val, by omega⟩ : Fin 8192) cc) := by
  subst ho
  exact View.ld_unit_apply_of X _ _ hin (ix2 kk cc) (ix2 (⟨n * 512 + kk.val, by omega⟩ : Fin 8192) cc) fun a => by
    fin_cases a
    · exact rfl
    · exact (Nat.zero_add _).symm
/-- What the values' tile reads. -/
theorem ld2 (X : Vec Ideal S16x128x512 .bf16) (off : Fin 3 → ℕ) (n : ℕ) (ho : off = ![n, 0, 0]) (hin) (d : Fin 128) (kk : Fin 512) (hn : n < 16) :
    View.ld (Val := Elt Ideal) (e' := .bf16) X (Rect.unit (s := S16x128x512) off S1x128x512.size hin) (ix3 (0 : Fin 1) d kk) = X (ix3 (⟨n, hn⟩ : Fin 16) d kk) := by
  subst ho
  exact View.ld_unit_apply_of X _ _ hin (ix3 (0 : Fin 1) d kk) (ix3 (⟨n, hn⟩ : Fin 16) d kk) fun a => by
    fin_cases a
    · exact rfl
    · exact (Nat.zero_add _).symm
    · exact (Nat.zero_add _).symm

end Cert.DiffIdeal.Val
end
-- ==== Proof.DiffPayC.lean ====
module
public import proofs.«01_k».proof.Proof.DiffSpec
public import proofs.«01_k».proof.Proof.Gen.DiffIdeal.Value
public import Idealize.ShloMosaic.Lib.Pipeline.ValueKit
public import Idealize.ShloMosaic.Lib.Pointwise
public import Idealize.ShloMosaic.Lib.Claim

@[expose] public section

set_option maxRecDepth 16384

noncomputable section

namespace Cert.DiffIdeal.Val

open Cert.DiffIdeal Cert.DiffIdeal.Gen Idealize.ShloMosaic Idealize.ShloMosaic.TcCoe Idealize.SL.Sem
open Idealize.ShloMosaic.Pipeline (Dat)
open Cert.DiffMath Cert.DiffSpec
open scoped BigOperators

variable (i : grid0.Coords) (x0 : FVec Ideal S512x128 .bf16) (kb : FVec Ideal S512x128 .bf16) (off : FVec Ideal S512x512 .f32)
  (vb : FVec Ideal S1x128x512 .bf16) (k : Fin (k0_t1_loop i).trips) (a12 a13 : FVec Ideal S1x1024 .f32) (a14 : FVec Ideal S128x1024 .f32)

/-- The running maximum after a tile. -/
theorem pay15_at (j : Fin 1024) : k0_pay15 (F := Ideal) i x0 k a12 kb off (ix2 (0 : Fin 1) j)
    = max (a12 (ix2 (0 : Fin 1) j)) (Finset.fold max (Ideal.ofBits .f32 0xFF800000#32) (fun x : Fin 512 => k0_pay14 (F := Ideal) x0 kb off (ix2 x j)) Finset.univ
      + k0_pay13 (F := Ideal) i k (ix2 (0 : Fin 1) (0 : Fin 1))) := by
  pointwise [k0_pay15]
theorem pay16_at (j : Fin 1024) : k0_pay16 (F := Ideal) i x0 k a12 kb off (ix2 (0 : Fin 1) j)
    = Ideal.exp (a12 (ix2 (0 : Fin 1) j) - k0_pay15 (F := Ideal) i x0 k a12 kb off (ix2 (0 : Fin 1) j)) := by
  pointwise [k0_pay16]
/-- The weights of a tile. -/
theorem pay17_at (kk : Fin 512) (j : Fin 1024) : k0_pay17 (F := Ideal) i x0 k a12 kb off (ix2 kk j)
    = Ideal.exp (k0_pay14 (F := Ideal) x0 kb off (ix2 kk j) - (k0_pay15 (F := Ideal) i x0 k a12 kb off (ix2 (0 : Fin 1) j) - k0_pay13 (F := Ideal) i k (ix2 (0 : Fin 1) (0 : Fin 1)))) := by
  pointwise [k0_pay17]
/-- The running sum after a tile. -/
theorem pay18_at (j : Fin 1024) : k0_pay18 (F := Ideal) i x0 k a12 a13 kb off (ix2 (0 : Fin 1) j)
    = k0_pay16 (F := Ideal) i x0 k a12 kb off (ix2 (0 : Fin 1) j) * a13 (ix2 (0 : Fin 1) j) + ∑ x : Fin 512, k0_pay17 (F := Ideal) i x0 k a12 kb off (ix2 x j) := by
  pointwise [k0_pay18]
/-- The running weighted sums after a tile. -/
theorem pay19_at (d : Fin 128) (j : Fin 1024) : k0_pay19 (F := Ideal) i x0 k a12 a14 kb off vb (ix2 d j)
    = k0_pay16 (F := Ideal) i x0 k a12 kb off (ix2 (0 : Fin 1) j) * a14 (ix2 d j) + ∑ x : Fin 512, vb (ix3 (0 : Fin 1) d x) * k0_pay17 (F := Ideal) i x0 k a12 kb off (ix2 x j) := by
  pointwise [k0_pay19]

end Cert.DiffIdeal.Val
end
-- ==== Proof.DiffPayD.lean ====
module
public import proofs.«01_k».proof.Proof.DiffSpec
public import proofs.«01_k».proof.Proof.Gen.DiffIdeal.Value
public import proofs.«01_k».proof.Proof.DiffPayA
public import Idealize.ShloMosaic.Lib.Pipeline.ValueKit
public import Idealize.ShloMosaic.Lib.Pointwise
public import Idealize.ShloMosaic.Lib.Claim

@[expose] public section

set_option maxRecDepth 16384

noncomputable section

namespace Cert.DiffIdeal.Val

open Cert.DiffIdeal Cert.DiffIdeal.Gen Idealize.ShloMosaic Idealize.ShloMosaic.TcCoe Idealize.SL.Sem
open Idealize.ShloMosaic.Pipeline (Dat)
open Cert.DiffMath Cert.DiffSpec
open scoped BigOperators

variable (a12 a13 : FVec Ideal S1x1024 .f32) (a14 : FVec Ideal S128x1024 .f32) (v35 : FVec Ideal S512x1024 .f32) (dg : FVec Ideal S512x512 .f32)
  (vb : FVec Ideal S1x128x512 .bf16)

/-- The last tile's step and the closing division, in one column: `s` the tile's scores in it. -/
def lastT (m l : EReal) (acc : EReal) (s v : Fin 512 → EReal) : EReal :=
  Ideal.div (Ideal.exp (m - max m (Finset.fold max (Ideal.ofBits .f32 0xFF800000#32) s Finset.univ)) * acc
      + ∑ x : Fin 512, v x * Ideal.exp (s x - max m (Finset.fold max (Ideal.ofBits .f32 0xFF800000#32) s Finset.univ)))
    (Ideal.exp (m - max m (Finset.fold max (Ideal.ofBits .f32 0xFF800000#32) s Finset.univ)) * l
      + ∑ x : Fin 512, Ideal.exp (s x - max m (Finset.fold max (Ideal.ofBits .f32 0xFF800000#32) s Finset.univ)))

theorem pay29_lo (d : Fin 128) (r : Fin 512) : k0_pay29 (F := Ideal) a12 a13 a14 (k0_pay27 (F := Ideal)) v35 dg vb (ix2 d (⟨r.val, by omega⟩ : Fin 1024))
    = lastT (a12 (ix2 (0 : Fin 1) (⟨r.val, by omega⟩ : Fin 1024))) (a13 (ix2 (0 : Fin 1) (⟨r.val, by omega⟩ : Fin 1024))) (a14 (ix2 d (⟨r.val, by omega⟩ : Fin 1024)))
        (fun x => v35 (ix2 x (⟨r.val, by omega⟩ : Fin 1024)) + dg (ix2 x r)) (fun x => vb (ix3 (0 : Fin 1) d x)) := by
  pointwise [k0_pay29, k0_pay27, lastT]
theorem pay29_hi (d : Fin 128) (r : Fin 512) : k0_pay29 (F := Ideal) a12 a13 a14 (k0_pay27 (F := Ideal)) v35 dg vb (ix2 d (⟨512 + r.val, by omega⟩ : Fin 1024))
    = lastT (a12 (ix2 (0 : Fin 1) (⟨512 + r.val, by omega⟩ : Fin 1024))) (a13 (ix2 (0 : Fin 1) (⟨512 + r.val, by omega⟩ : Fin 1024))) (a14 (ix2 d (⟨512 + r.val, by omega⟩ : Fin 1024)))
        (fun x => v35 (ix2 x (⟨512 + r.val, by omega⟩ : Fin 1024)) + dg (ix2 x r)) (fun x => vb (ix3 (0 : Fin 1) d x)) := by
  pointwise [k0_pay29, k0_pay27, lastT]
theorem pay29_at (d : Fin 128) (r : Fin 512) (a : Fin 2) : k0_pay29 (F := Ideal) a12 a13 a14 (k0_pay27 (F := Ideal)) v35 dg vb (ix2 d (col a r))
    = lastT (a12 (ix2 (0 : Fin 1) (col a r))) (a13 (ix2 (0 : Fin 1) (col a r))) (a14 (ix2 d (col a r)))
        (fun x => v35 (ix2 x (col a r)) + dg (ix2 x r)) (fun x => vb (ix3 (0 : Fin 1) d x)) := by
  match a with
  | 0 => rw [col0]; exact pay29_lo ..
  | 1 => rw [col1]; exact pay29_hi ..

variable (v67 : FVec Ideal S128x1024 .f32) (lv : FVec Ideal S4x64 .f32) (w : FVec Ideal S128x1 .f32)

/-- The second map's weight, from the stacked vectors. -/
def lamK : EReal := Ideal.exp (∑ x : Fin 64, lv (ix2 (0 : Fin 4) x) * lv (ix2 (1 : Fin 4) x)) - Ideal.exp (∑ x : Fin 64, lv (ix2 (2 : Fin 4) x) * lv (ix2 (3 : Fin 4) x))
  + Ideal.ofBits .f32 0x3E4CCCCD#32
/-- The difference of the two maps' averages. -/
def dif (d : Fin 128) (r : Fin 512) : EReal := v67 (ix2 d (col 0 r)) - lamK lv * v67 (ix2 d (col 1 r))

/-- The block written: normalised and weighted. -/
theorem pay1_at (r : Fin 512) (d : Fin 128) : k0_pay1 (F := Ideal) v67 (k0_pay30 lv) (k0_pay31 (F := Ideal)) w (ix2 r d)
    = dif v67 lv d r * Ideal.rsqrt (Ideal.div (∑ x : Fin 128, dif v67 lv x r * dif v67 lv x r) (Ideal.ofBits .f32 0x43000000#32) + Ideal.ofBits .f32 0x358637BD#32)
      * (w (ix2 d (0 : Fin 1)) * Ideal.ofBits .f32 0x3F4CCCCD#32) := by
  unfold dif
  simp only [col0, col1]
  pointwise [k0_pay1, k0_pay30, k0_pay31, lamK]

end Cert.DiffIdeal.Val
end
-- ==== Proof.DiffStep.lean ====
module
public import proofs.«01_k».proof.Proof.DiffPayA
public import proofs.«01_k».proof.Proof.DiffPayC
public import proofs.«01_k».proof.Proof.DiffPayD
public import Idealize.ShloMosaic.Lib.Pipeline.ValueKit
public import Idealize.ShloMosaic.Lib.Pointwise
public import Idealize.ShloMosaic.Lib.Claim

@[expose] public section

set_option maxRecDepth 16384

noncomputable section

namespace Cert.DiffIdeal.Val

open Cert.DiffIdeal Cert.DiffIdeal.Gen Idealize.ShloMosaic Idealize.ShloMosaic.TcCoe Idealize.SL.Sem
open Idealize.ShloMosaic.Pipeline (Dat)
open Cert.DiffMath Cert.DiffSpec
open scoped BigOperators

theorem fold_sup {n : ℕ} (S : Fin n → EReal) : Finset.fold max (Ideal.ofBits .f32 0xFF800000#32) S Finset.univ = Finset.univ.sup S := by
  rw [ofBits_ninf]; rfl

variable (ok : ℕ → Prop) [DecidablePred ok] (s : ℕ → ℝ)

theorem mx_real (S : Fin 512 → EReal) (n : ℕ) (sh : ℝ) (hraw : ∀ kk : Fin 512, S kk = if ok (n + kk.val) then ((s (n + kk.val) - sh : ℝ) : EReal) else ⊥)
    (hne : ∃ kk : Fin 512, ok (n + kk.val)) : ∃ R : ℝ, Finset.fold max (Ideal.ofBits .f32 0xFF800000#32) S Finset.univ = (R : EReal) := by
  rw [fold_sup]
  refine sup_real S (fun k => ?_) ?_
  · rw [hraw k]; split
    · exact EReal.coe_ne_top _
    · exact bot_ne_top
  · obtain ⟨kk, hk⟩ := hne
    exact ⟨kk, by rw [hraw kk, if_pos hk]; exact EReal.coe_ne_bot _⟩

/-- The last tile's step and the division leave the softmax average. -/
theorem lastT_att (N : ℕ) (v : Fin 128 → ℕ → ℝ) (n : ℕ) (m l : EReal) (acc : Fin 128 → EReal) (h : Inv ok s v n m l acc)
    (S : Fin 512 → EReal) (hraw : ∀ kk : Fin 512, S kk = if ok (n + kk.val) then ((s (n + kk.val) : ℝ) : EReal) else ⊥)
    (vt : Fin 128 → Fin 512 → EReal) (hv : ∀ d kk, vt d kk = (v d (n + kk.val) : EReal)) (hne : ∃ kk : Fin 512, ok (n + kk.val))
    (hn : n + 512 ≤ N) (hno : ∀ k, n + 512 ≤ k → ¬ ok k) (d : Fin 128) :
    lastT m l (acc d) S (vt d) = (att N ok s (v d) : EReal) := by
  have hr : ∀ kk : Fin 512, S kk = if ok (n + kk.val) then ((s (n + kk.val) - 0 : ℝ) : EReal) else ⊥ := fun kk => by rw [sub_zero]; exact hraw kk
  have hs := step ok s v n m l acc h S 0 hr vt hv _ (mx_real ok s S n 0 hr hne)
  simp only [EReal.coe_zero, add_zero, sub_zero] at hs
  exact fin_div ok s N v (n + 512) _ _ _ hs (by obtain ⟨kk, hk⟩ := hne; exact ⟨_, by omega, hk⟩) hn hno d

variable (i : grid0.Coords) (x0 : FVec Ideal S512x128 .bf16) (kb : FVec Ideal S512x128 .bf16) (off : FVec Ideal S512x512 .f32)
  (vb : FVec Ideal S1x128x512 .bf16) (k : Fin (k0_t1_loop i).trips)

/-- What the running state of column `r` of map `a` holds after the first `n` keys. -/
def InvC (v : Fin 128 → ℕ → ℝ) (a : Fin 2) (r : Fin 512) (n : ℕ) (st : FVec Ideal S1x1024 .f32 × FVec Ideal S1x1024 .f32 × FVec Ideal S128x1024 .f32) : Prop :=
  Inv ok s v n (st.1 (ix2 (0 : Fin 1) (col a r))) (st.2.1 (ix2 (0 : Fin 1) (col a r))) (fun d => st.2.2 (ix2 d (col a r)))

/-- One trip of the loop over the earlier tiles. -/
theorem trip_inv (v : Fin 128 → ℕ → ℝ) (a : Fin 2) (r : Fin 512) (n : ℕ) (st : FVec Ideal S1x1024 .f32 × FVec Ideal S1x1024 .f32 × FVec Ideal S128x1024 .f32)
    (h : InvC ok s v a r n st) (sh : ℝ) (hsh : k0_pay13 (F := Ideal) i k (ix2 (0 : Fin 1) (0 : Fin 1)) = ((sh : ℝ) : EReal))
    (hraw : ∀ kk : Fin 512, raw x0 kb off a r kk = if ok (n + kk.val) then ((s (n + kk.val) - sh : ℝ) : EReal) else ⊥)
    (hv : ∀ (d : Fin 128) (kk : Fin 512), (vb (ix3 (0 : Fin 1) d kk) : EReal) = (v d (n + kk.val) : EReal)) (hne : ∃ kk : Fin 512, ok (n + kk.val)) :
    InvC ok s v a r (n + 512) (k0_pay15 (F := Ideal) i x0 k st.1 kb off, k0_pay18 (F := Ideal) i x0 k st.1 st.2.1 kb off, k0_pay19 (F := Ideal) i x0 k st.1 st.2.2 kb off vb) := by
  have hs := step ok s v n _ _ _ h (raw x0 kb off a r) sh hraw (fun d kk => vb (ix3 (0 : Fin 1) d kk)) hv _ (mx_real ok s _ n sh hraw hne)
  unfold InvC
  simp only [pay18_at, pay19_at, pay16_at, pay17_at, pay15_at, pay14_at, hsh]
  exact hs

theorem init_inv (v : Fin 128 → ℕ → ℝ) (a : Fin 2) (r : Fin 512) : InvC ok s v a r 0 (k0_pay10 (F := Ideal), k0_pay11 (F := Ideal), k0_pay12 (F := Ideal)) := by
  refine Or.inl ⟨rfl, ?_, ?_, fun d => ?_⟩
  · pointwise [k0_pay10]; rfl
  · pointwise [k0_pay11]
  · pointwise [k0_pay12]

theorem loop_inv (𝒱 : Variants) (c : Dev nD) (bd : Option 𝒱.V) (arg3 : Memref sig .tc .vmem S512x128 .bf16) (harg3 : arg3.IsWhole) (arg4 : Memref sig .tc .vmem S8192x128 .bf16) (harg4 : arg4.IsWhole) (arg5 : Memref sig .tc .vmem S16x128x512 .bf16) (harg5 : arg5.IsWhole) (arg6 : Memref sig .tc .vmem S4x64 .f32) (harg6 : arg6.IsWhole) (arg7 : Memref sig .tc .vmem S128x1 .f32) (harg7 : arg7.IsWhole) (arg8 : Memref sig .tc .vmem S512x128 .bf16) (harg8 : arg8.IsWhole) (arg9 : Memref sig .tc .vmem S512x512 .f32) (harg9 : arg9.IsWhole) (arg10 : Memref sig .tc .vmem S512x512 .f32) (harg10 : arg10.IsWhole)
    (B1 : Vec Ideal S8192x128 .bf16) (B2 : Vec Ideal S16x128x512 .bf16) (X_arg9 : BufTy.Contents (Elt Ideal) arg9.view.ty)
    (hX : ∀ hin, View.readAt (Elt Ideal) arg9.view (Rect.unit (s := S512x512) ![0, 0] S512x512.size hin).toLoadRect X_arg9 = off)
    (v : Fin 128 → ℕ → ℝ) (a : Fin 2) (r : Fin 512) (sh : ℕ → ℝ)
    (hsh : ∀ k : Fin (k0_t1_loop i).trips, k0_pay13 (F := Ideal) i k (ix2 (0 : Fin 1) (0 : Fin 1)) = ((sh k.val : ℝ) : EReal))
    (hraw : ∀ (k : Fin (k0_t1_loop i).trips) (hin) (kk : Fin 512), raw x0 (View.ld (Val := Elt Ideal) (e' := .bf16) B1 (Rect.unit (s := S8192x128) (k0_off1 i k) S512x128.size hin)) off a r kk
      = if ok (k.val * 512 + kk.val) then ((s (k.val * 512 + kk.val) - sh k.val : ℝ) : EReal) else ⊥)
    (hv : ∀ (k : Fin (k0_t1_loop i).trips) (hin) (d : Fin 128) (kk : Fin 512), (View.ld (Val := Elt Ideal) (e' := .bf16) B2 (Rect.unit (s := S16x128x512) (k0_off2 i k) S1x128x512.size hin) (ix3 (0 : Fin 1) d kk) : EReal)
      = (v d (k.val * 512 + kk.val) : EReal))
    (hne : ∀ k : Fin (k0_t1_loop i).trips, ∃ kk : Fin 512, ok (k.val * 512 + kk.val)) :
    ∀ n ≤ (k0_t1_loop i).trips, InvC ok s v a r (n * 512)
      (st_k0_t1 (F := Ideal) 𝒱 c bd i arg3 harg3 arg4 harg4 arg5 harg5 arg6 harg6 arg7 harg7 arg8 harg8 arg9 harg9 arg10 harg10 x0 (harg4.unread B1) (harg5.unread B2) X_arg9 (k0_pay10 (F := Ideal), k0_pay11 (F := Ideal), k0_pay12 (F := Ideal)) n) := by
  intro n
  induction n with
  | zero => intro _; rw [st_k0_t1_zero, Nat.zero_mul]; exact init_inv ok s v a r
  | succ n ih =>
    intro hn
    have hk := ih (by omega)
    rw [st_k0_t1_succ (k := ⟨n, hn⟩)]
    unfold tripR_k0_t1 trip_k0_t1
    dsimp only
    rw [hX]
    simp only [View.readAt_eq_ld, Memref.IsWhole.read_unread]
    rw [show (n + 1) * 512 = n * 512 + 512 by ring]
    exact trip_inv ok s i x0 _ off _ ⟨n, hn⟩ v a r (n * 512) _ hk (sh n) (hsh ⟨n, hn⟩) (hraw ⟨n, hn⟩ _) (hv ⟨n, hn⟩ _) (hne ⟨n, hn⟩)

end Cert.DiffIdeal.Val
end
-- ==== Proof.DiffPt.lean ====
module
public import proofs.«01_k».proof.Proof.DiffBlk
public import proofs.«01_k».proof.Proof.DiffStep
public import Idealize.ShloMosaic.Lib.Pipeline.ValueKit
public import Idealize.ShloMosaic.Lib.Pointwise
public import Idealize.ShloMosaic.Lib.Claim
public import Idealize.ShloMosaic.Lib.VecWindow

@[expose] public section

set_option maxRecDepth 16384
set_option maxHeartbeats 1000000

noncomputable section

namespace Cert.DiffIdeal.Val

open Cert.DiffIdeal Cert.DiffIdeal.Gen Idealize.ShloMosaic Idealize.ShloMosaic.TcCoe Idealize.SL.Sem
open Idealize.ShloMosaic.Pipeline (Dat)
open Cert.DiffMath Cert.DiffSpec
open scoped BigOperators

variable (m : (ℓ : Loc nD τ sig) → Buf (Elt Ideal) ℓ)

abbrev L1 (c : Dev nD) : FVec Ideal S64 .f32 := m ((c : Thread nD τ).loc main_arg3)
abbrev L2 (c : Dev nD) : FVec Ideal S64 .f32 := m ((c : Thread nD τ).loc main_arg4)
abbrev L3 (c : Dev nD) : FVec Ideal S64 .f32 := m ((c : Thread nD τ).loc main_arg5)
abbrev L4 (c : Dev nD) : FVec Ideal S64 .f32 := m ((c : Thread nD τ).loc main_arg6)
abbrev Ww (c : Dev nD) : FVec Ideal S128 .f32 := m ((c : Thread nD τ).loc main_arg7)

/-- The position of row `r`, and the score of map `a` there against key `k`. -/
abbrev pr (t : Fin cfg0.N) (r : Fin 512) : ℕ := t.val % 16 * 512 + r.val
abbrev scT (c : Dev nD) (t : Fin cfg0.N) (a : Fin 2) (r : Fin 512) : ℕ → ℝ := sc (Q m c) (K m c) (tb t) (th t) a (pr t r)
abbrev vT (c : Dev nD) (t : Fin cfg0.N) : Fin 128 → ℕ → ℝ := vl (Vv m c) (tb t) (th t)

theorem crd1 (t : Fin cfg0.N) : ((grid0.coords t) 1).val = (th t).val := (crd t).1
theorem crd2 (t : Fin cfg0.N) : ((grid0.coords t) 2).val = t.val % 16 := (crd t).2

/-- The entries of the query block and of the keys, as extended reals. -/
abbrev qe (c : Dev nD) (t : Fin cfg0.N) (r : Fin 512) (x : Fin 128) : EReal := iblk m c 0 t (ix2 r x)
abbrev ke (c : Dev nD) (t : Fin cfg0.N) (k : Fin 8192) (x : Fin 128) : EReal := iblk m c 1 t (ix2 k x)

/-- The product of a key row and a scaled query row, over the features of map `a`. -/
theorem dotq (c : Dev nD) (hQ : Fine (Q m c)) (hK : Fine (K m c)) (t : Fin cfg0.N) (r : Fin 512) (a : Fin 2) (key : Fin 8192) :
    (∑ x : Fin 64, ke m c t key (lane a x) * qe m c t r (lane a x))
      = (((∑ x : Fin 64, at5 (Q m c) (tb t) (pr t r) (th t) a x * at5 (K m c) (tb t) key.val (th t) a x) * (1 / 8) : ℝ) : EReal) := by
  have hr := r.isLt
  have h : ∀ x : Fin 64, ke m c t key (lane a x) * qe m c t r (lane a x)
      = ((at5 (Q m c) (tb t) (pr t r) (th t) a x * at5 (K m c) (tb t) key.val (th t) a x * (1 / 8) : ℝ) : EReal) := by
    intro x
    have e1 : ke m c t key (lane a x) = (at5 (K m c) (tb t) key.val (th t) a x : EReal) :=
      (blk1 m c t key (lane a x)).trans ((v5_at m c (tb t) key (th t) a x).trans (at5_eq (K m c) hK (tb t) key.val key.isLt (th t) a x))
    have e0 : qe m c t r (lane a x) = (at5 (Q m c) (tb t) (pr t r) (th t) a x : EReal) * ((1 / 8 : ℝ) : EReal) := by
      refine (blk0 m c t r (lane a x)).trans ((v3_at m c (tb t) (tp t r) (th t) a x).trans ?_)
      rw [ofBits_eighth]
      exact congrArg (· * ((1 / 8 : ℝ) : EReal)) (at5_eq (Q m c) hQ (tb t) (pr t r) (by unfold pr; omega) (th t) a x)
    rw [e1, e0, ← EReal.coe_mul, ← EReal.coe_mul]
    congr 1; ring
  rw [Finset.sum_congr rfl fun x _ => h x, ← coe_sum, ← Finset.sum_mul]

/-- A tile's scores from its bias entry. -/
theorem raw_eq (c : Dev nD) (hQ : Fine (Q m c)) (hK : Fine (K m c)) (t : Fin cfg0.N) (off : FVec Ideal S512x512 .f32) (kb : FVec Ideal S512x128 .bf16)
    (n : ℕ) (hn : n < 16) (hkb : ∀ (kk : Fin 512) (cc : Fin 128), (kb (ix2 kk cc) : EReal) = iblk m c 1 t (ix2 (⟨n * 512 + kk.val, by omega⟩ : Fin 8192) cc))
    (a : Fin 2) (r kk : Fin 512) :
    raw (iblk m c 0 t) kb off a r kk = (((∑ x : Fin 64, at5 (Q m c) (tb t) (pr t r) (th t) a x * at5 (K m c) (tb t) (n * 512 + kk.val) (th t) a x) * (1 / 8) : ℝ) : EReal) + off (ix2 kk r) := by
  unfold raw
  refine congrArg (· + (off (ix2 kk r) : EReal)) (Eq.trans (Finset.sum_congr rfl fun x _ => ?_) (dotq m c hQ hK t r a ⟨n * 512 + kk.val, by omega⟩))
  exact congrArg (· * qe m c t r (lane a x)) (hkb kk (lane a x))

/-- An earlier tile's scores, less the tile's shift. -/
theorem raw_off (c : Dev nD) (hQ : Fine (Q m c)) (hK : Fine (K m c)) (t : Fin cfg0.N) (off : FVec Ideal S512x512 .f32)
    (hoff : ∀ kk r : Fin 512, (off (ix2 kk r) : EReal) = ((-(slope (th t).val) * ((r.val : ℝ) - (kk.val : ℝ)) : ℝ) : EReal))
    (a : Fin 2) (r : Fin 512) (k : Fin (k0_t1_loop (grid0.coords t)).trips) (hin) (kk : Fin 512) :
    raw (iblk m c 0 t) (View.ld (Val := Elt Ideal) (e' := .bf16) (iblk m c 1 t) (Rect.unit (s := S8192x128) (k0_off1 (grid0.coords t) k) S512x128.size hin)) off a r kk
      = if okk (pr t r) (k.val * 512 + kk.val) then ((scT m c t a r (k.val * 512 + kk.val) - (-(slope (th t).val) * (((t.val % 16 : ℕ) : ℝ) - (k.val : ℝ)) * 512) : ℝ) : EReal) else ⊥ := by
  have hk : k.val < t.val % 16 := lt_of_lt_of_eq k.isLt ((trips1 _).trans (crd2 t))
  have hr := r.isLt
  have hkk := kk.isLt
  refine (raw_eq m c hQ hK t off _ k.val (by omega) (fun kk cc => ld1 (iblk m c 1 t) _ k.val (off1_at _ k) hin kk cc (by omega)) a r kk).trans ?_
  rw [hoff, ← EReal.coe_add,
    if_pos (show okk (pr t r) (k.val * 512 + kk.val) by unfold okk pr; omega)]
  congr 1
  unfold scT sc pr
  have habs : |((t.val % 16 * 512 + r.val : ℕ) : ℝ) - ((k.val * 512 + kk.val : ℕ) : ℝ)| = ((t.val % 16 * 512 + r.val : ℕ) : ℝ) - ((k.val * 512 + kk.val : ℕ) : ℝ) := by
    refine abs_of_nonneg (sub_nonneg.mpr ?_)
    exact_mod_cast (by omega : k.val * 512 + kk.val ≤ t.val % 16 * 512 + r.val)
  rw [habs]
  push_cast
  ring

/-- The diagonal tile's scores. -/
theorem raw_diag (c : Dev nD) (hQ : Fine (Q m c)) (hK : Fine (K m c)) (t : Fin cfg0.N) (dg : FVec Ideal S512x512 .f32)
    (hdg : ∀ kk r : Fin 512, (dg (ix2 kk r) : EReal) = if kk.val / 64 ≤ r.val / 64 then ((-(slope (th t).val) * |(r.val : ℝ) - (kk.val : ℝ)| : ℝ) : EReal) else ⊥)
    (a : Fin 2) (r : Fin 512) (hin) (kk : Fin 512) :
    raw (iblk m c 0 t) (View.ld (Val := Elt Ideal) (e' := .bf16) (iblk m c 1 t) (Rect.unit (s := S8192x128) (k0_off5 (grid0.coords t)) S512x128.size hin)) dg a r kk
      = if okk (pr t r) (t.val % 16 * 512 + kk.val) then ((scT m c t a r (t.val % 16 * 512 + kk.val) : ℝ) : EReal) else ⊥ := by
  have hr := r.isLt
  have hkk := kk.isLt
  refine (raw_eq m c hQ hK t dg _ (t.val % 16) (by omega) (fun kk cc => ld1 (iblk m c 1 t) _ (t.val % 16) ((off5_at _).trans (by rw [crd2])) hin kk cc (by omega)) a r kk).trans ?_
  rw [hdg]
  by_cases hc : kk.val / 64 ≤ r.val / 64
  · rw [if_pos hc, if_pos (show okk (pr t r) (t.val % 16 * 512 + kk.val) by unfold okk pr; omega), ← EReal.coe_add]
    congr 1
    unfold scT sc pr
    have habs : |((t.val % 16 * 512 + r.val : ℕ) : ℝ) - ((t.val % 16 * 512 + kk.val : ℕ) : ℝ)| = |(r.val : ℝ) - (kk.val : ℝ)| := by
      congr 1; push_cast; ring
    rw [habs]
    ring
  · rw [if_neg hc, if_neg (show ¬ okk (pr t r) (t.val % 16 * 512 + kk.val) by unfold okk pr; omega)]
    exact EReal.add_bot _

/-- The values' tiles. -/
theorem val_tile (c : Dev nD) (hV : Fine (Vv m c)) (t : Fin cfg0.N) (off : Fin 3 → ℕ) (n : ℕ) (hn : n < 16) (ho : off = ![n, 0, 0]) (hin) (d : Fin 128) (kk : Fin 512) :
    (View.ld (Val := Elt Ideal) (e' := .bf16) (iblk m c 2 t) (Rect.unit (s := S16x128x512) off S1x128x512.size hin) (ix3 (0 : Fin 1) d kk) : EReal)
      = (vT m c t d (n * 512 + kk.val) : EReal) := by
  have hkk := kk.isLt
  refine (ld2 (iblk m c 2 t) off n ho hin d kk hn).trans ((blk2 m c t ⟨n, hn⟩ d kk).trans ((v8_at m c (tb t) ⟨n, hn⟩ kk (th t) d).trans ?_))
  exact vl_eq (Vv m c) hV (tb t) (n * 512 + kk.val) (by omega) (th t) d

/-- The second map's weight. -/
theorem lamK_eq (c : Dev nD) (t : Fin cfg0.N) : lamK (iblk m c 3 t) = lam (L1 m c) (L2 m c) (L3 m c) (L4 m c) := by
  unfold lamK lam
  exact congrArg₂ (fun u v : EReal => Ideal.exp u - Ideal.exp v + Ideal.ofBits .f32 0x3E4CCCCD#32)
    (Finset.sum_congr rfl fun x _ => congrArg₂ (fun u v : EReal => u * v) ((blk3 m c t 0 x).trans (v13_0 m c x)) ((blk3 m c t 1 x).trans (v13_1 m c x)))
    (Finset.sum_congr rfl fun x _ => congrArg₂ (fun u v : EReal => u * v) ((blk3 m c t 2 x).trans (v13_2 m c x)) ((blk3 m c t 3 x).trans (v13_3 m c x)))

/-- The state after the loop over the earlier tiles. -/
theorem st_inv (c : Dev nD) (hQ : Fine (Q m c)) (hK : Fine (K m c)) (hV : Fine (Vv m c)) (t : Fin cfg0.N) (off : FVec Ideal S512x512 .f32)
    (hoff : ∀ kk r : Fin 512, (off (ix2 kk r) : EReal) = ((-(slope (th t).val) * ((r.val : ℝ) - (kk.val : ℝ)) : ℝ) : EReal))
    (𝒱 : Variants) (bd : Option 𝒱.V) (arg3 : Memref sig .tc .vmem S512x128 .bf16) (harg3 : arg3.IsWhole) (arg4 : Memref sig .tc .vmem S8192x128 .bf16) (harg4 : arg4.IsWhole) (arg5 : Memref sig .tc .vmem S16x128x512 .bf16) (harg5 : arg5.IsWhole) (arg6 : Memref sig .tc .vmem S4x64 .f32) (harg6 : arg6.IsWhole) (arg7 : Memref sig .tc .vmem S128x1 .f32) (harg7 : arg7.IsWhole) (arg8 : Memref sig .tc .vmem S512x128 .bf16) (harg8 : arg8.IsWhole) (arg9 : Memref sig .tc .vmem S512x512 .f32) (harg9 : arg9.IsWhole) (arg10 : Memref sig .tc .vmem S512x512 .f32) (harg10 : arg10.IsWhole)
    (X_arg9 : BufTy.Contents (Elt Ideal) arg9.view.ty)
    (hX : ∀ hin, View.readAt (Elt Ideal) arg9.view (Rect.unit (s := S512x512) ![0, 0] S512x512.size hin).toLoadRect X_arg9 = off) (a : Fin 2) (r : Fin 512) :
    InvC (okk (pr t r)) (scT m c t a r) (vT m c t) a r (t.val % 16 * 512)
      (st_k0_t1 (F := Ideal) 𝒱 c bd (grid0.coords t) arg3 harg3 arg4 harg4 arg5 harg5 arg6 harg6 arg7 harg7 arg8 harg8 arg9 harg9 arg10 harg10 (iblk m c 0 t) (harg4.unread (iblk m c 1 t)) (harg5.unread (iblk m c 2 t)) X_arg9
        (k0_pay10 (F := Ideal), k0_pay11 (F := Ideal), k0_pay12 (F := Ideal)) (k0_t1_loop (grid0.coords t)).trips) := by
  have hk : ∀ k : Fin (k0_t1_loop (grid0.coords t)).trips, k.val < t.val % 16 := fun k => lt_of_lt_of_eq k.isLt ((trips1 _).trans (crd2 t))
  have h := loop_inv (okk (pr t r)) (scT m c t a r) (grid0.coords t) (iblk m c 0 t) off 𝒱 c bd arg3 harg3 arg4 harg4 arg5 harg5 arg6 harg6 arg7 harg7 arg8 harg8 arg9 harg9 arg10 harg10
    (iblk m c 1 t) (iblk m c 2 t) X_arg9 hX (vT m c t) a r (fun k => -(slope (th t).val) * (((t.val % 16 : ℕ) : ℝ) - (k : ℝ)) * 512)
    (fun k => by rw [pay13_at, crd1, crd2, mul_assoc])
    (fun k hin kk => raw_off m c hQ hK t off hoff a r k hin kk)
    (fun k hin d kk => val_tile m c hV t _ k.val (by have := hk k; omega) (off2_at _ k) hin d kk)
    (fun k => ⟨0, by have := hk k; have := r.isLt; show (k.val * 512 + 0) / 64 ≤ (t.val % 16 * 512 + r.val) / 64; omega⟩)
    (k0_t1_loop (grid0.coords t)).trips le_rfl
  have e : (k0_t1_loop (grid0.coords t)).trips * 512 = t.val % 16 * 512 := congrArg (· * 512) ((trips1 _).trans (crd2 t))
  rw [← e]
  exact h

/-- What the body leaves at a point, from the state after the loop and the diagonal tile's bias. -/
theorem pt (c : Dev nD) (hQ : Fine (Q m c)) (hK : Fine (K m c)) (hV : Fine (Vv m c)) (t : Fin cfg0.N) (dg : FVec Ideal S512x512 .f32)
    (hdg : ∀ kk r : Fin 512, (dg (ix2 kk r) : EReal) = if kk.val / 64 ≤ r.val / 64 then ((-(slope (th t).val) * |(r.val : ℝ) - (kk.val : ℝ)| : ℝ) : EReal) else ⊥)
    (st : FVec Ideal S1x1024 .f32 × FVec Ideal S1x1024 .f32 × FVec Ideal S128x1024 .f32)
    (hst : ∀ (a : Fin 2) (r : Fin 512), InvC (okk (pr t r)) (scT m c t a r) (vT m c t) a r (t.val % 16 * 512) st) (h5) (h6) (r : Fin 512) (d : Fin 128) :
    k0_pay1 (F := Ideal) (k0_pay29 (F := Ideal) st.1 st.2.1 st.2.2 (k0_pay27 (F := Ideal))
        (k0_pay28 (F := Ideal) (iblk m c 0 t) (View.ld (Val := Elt Ideal) (e' := .bf16) (iblk m c 1 t) (Rect.unit (s := S8192x128) (k0_off5 (grid0.coords t)) S512x128.size h5))) dg
        (View.ld (Val := Elt Ideal) (e' := .bf16) (iblk m c 2 t) (Rect.unit (s := S16x128x512) (k0_off6 (grid0.coords t)) S1x128x512.size h6)))
      (k0_pay30 (F := Ideal) (iblk m c 3 t)) (k0_pay31 (F := Ideal)) (iblk m c 4 t) (ix2 r d)
      = yy (Q m c) (K m c) (Vv m c) (L1 m c) (L2 m c) (L3 m c) (L4 m c) (Ww m c) (tb t) (pr t r) (th t) d := by
  have hr := r.isLt
  have hv : ∀ (a : Fin 2) (d : Fin 128), (k0_pay29 (F := Ideal) st.1 st.2.1 st.2.2 (k0_pay27 (F := Ideal))
        (k0_pay28 (F := Ideal) (iblk m c 0 t) (View.ld (Val := Elt Ideal) (e' := .bf16) (iblk m c 1 t) (Rect.unit (s := S8192x128) (k0_off5 (grid0.coords t)) S512x128.size h5))) dg
        (View.ld (Val := Elt Ideal) (e' := .bf16) (iblk m c 2 t) (Rect.unit (s := S16x128x512) (k0_off6 (grid0.coords t)) S1x128x512.size h6)) (ix2 d (col a r)) : EReal)
      = (att 8192 (okk (pr t r)) (scT m c t a r) (vT m c t d) : EReal) := by
    intro a d
    rw [pay29_at]
    simp only [pay28_at]
    refine lastT_att (okk (pr t r)) (scT m c t a r) 8192 (vT m c t) (t.val % 16 * 512) _ _ (fun d => st.2.2 (ix2 d (col a r))) (hst a r) _
      (fun kk => raw_diag m c hQ hK t dg hdg a r h5 kk) (fun d x => View.ld (Val := Elt Ideal) (e' := .bf16) (iblk m c 2 t) (Rect.unit (s := S16x128x512) (k0_off6 (grid0.coords t)) S1x128x512.size h6) (ix3 (0 : Fin 1) d x))
      (fun d kk => val_tile m c hV t _ (t.val % 16) (by omega) ((off6_at _).trans (by rw [crd2])) h6 d kk) ⟨r, le_refl _⟩ (by omega) (fun k hk => ?_) d
    unfold okk pr
    omega
  rw [pay1_at]
  unfold yy xx dif
  simp only [hv, lamK_eq m c t]
  rw [blk4 m c t d, v14_at m c d, mul_assoc, mul_assoc, mul_assoc]

end Cert.DiffIdeal.Val
end
-- ==== Proof.DiffOut.lean ====
module
public import proofs.«01_k».proof.Proof.DiffPt
public import Idealize.ShloMosaic.Lib.Pipeline.ValueKit
public import Idealize.ShloMosaic.Lib.Pointwise
public import Idealize.ShloMosaic.Lib.Claim
public import Idealize.ShloMosaic.Lib.VecWindow

@[expose] public section

set_option maxRecDepth 16384
set_option maxHeartbeats 1000000

noncomputable section

namespace Cert.DiffIdeal.Val

open Cert.DiffIdeal Cert.DiffIdeal.Gen Idealize.ShloMosaic Idealize.ShloMosaic.TcCoe Idealize.SL.Sem
open Idealize.ShloMosaic.Pipeline (Dat)
open Cert.DiffMath Cert.DiffSpec
open scoped BigOperators

variable (m : (ℓ : Loc nD τ sig) → Buf (Elt Ideal) ℓ)

theorem trips2_at : ∀ z : Fin 16, Scf.trips (Scalar.addi 0#32 (Scalar.muli (Scalar.divsi (Scalar.subi (BitVec.ofNat 32 z.val) 0#32) 1#32) 1#32))
    (Scalar.addi 0#32 (Scalar.subi (BitVec.ofNat 32 z.val) 0#32)) 1#32 = 0 := by
  decide +kernel

/-- The scratch at the first block of a head: the bias of the earlier tiles … -/
theorem so0 (c : Dev nD) (t : Fin cfg0.N) (h0 : t.val % 16 = 0) (kk r : Fin 512) :
    (sout0_A_0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (iblk m c 0 t) (iblk m c 1 t) (iblk m c 2 t) (iblk m c 3 t) (iblk m c 4 t) (ix2 kk r) : EReal)
      = ((-(slope (th t).val) * ((r.val : ℝ) - (kk.val : ℝ)) : ℝ) : EReal) := by
  rw [← crd1 t]
  frame_out
  exact pay3_at (grid0.coords t) kk r
/-- … and the bias of the diagonal tile. -/
theorem so1 (c : Dev nD) (t : Fin cfg0.N) (h0 : t.val % 16 = 0) (kk r : Fin 512) :
    (sout0_A_1 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (iblk m c 0 t) (iblk m c 1 t) (iblk m c 2 t) (iblk m c 3 t) (iblk m c 4 t) (ix2 kk r) : EReal)
      = if kk.val / 64 ≤ r.val / 64 then ((-(slope (th t).val) * |(r.val : ℝ) - (kk.val : ℝ)| : ℝ) : EReal) else ⊥ := by
  rw [← crd1 t]
  frame_out
  exact pay8_at (grid0.coords t) kk r

/-- The block written at the first block of a head. -/
theorem outA (c : Dev nD) (hQ : Fine (Q m c)) (hK : Fine (K m c)) (hV : Fine (Vv m c)) (t : Fin cfg0.N) (h0 : t.val % 16 = 0) (r : Fin 512) (d : Fin 128) :
    out0_A_5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (iblk m c 0 t) (iblk m c 1 t) (iblk m c 2 t) (iblk m c 3 t) (iblk m c 4 t) (ix2 r d)
      = yy (Q m c) (K m c) (Vv m c) (L1 m c) (L2 m c) (L3 m c) (L4 m c) (Ww m c) (tb t) (pr t r) (th t) d := by
  frame_out
  refine pt m c hQ hK hV t _ (fun kk r => ?_) _ (fun a r => ?_) _ _ r d
  · rw [← crd1 t]; exact pay8_at (grid0.coords t) kk r
  · rw [show Scf.trips (Scalar.addi 0#32 (Scalar.muli (Scalar.divsi (Scalar.subi (BitVec.ofNat 32 (grid0.coords t 2).val) 0#32) 1#32) 1#32))
      (Scalar.addi 0#32 (Scalar.subi (BitVec.ofNat 32 (grid0.coords t 2).val) 0#32)) 1#32 = 0 from trips2_at _]
    rw [st_k0_t2_zero]
    exact st_inv m c hQ hK hV t (k0_pay3 (F := Ideal) (k0_pay7 (grid0.coords t))) (fun kk r => by rw [← crd1 t]; exact pay3_at (grid0.coords t) kk r) _ _ _ _ _ _ _ _ _ _ _ _ _ _ _ _ _ _ _
      (fun hin => View.readAt_writes_full _ _ _ _ _ _) a r

/-- The block written at the other points. -/
theorem outB (c : Dev nD) (hQ : Fine (Q m c)) (hK : Fine (K m c)) (hV : Fine (Vv m c)) (t : Fin cfg0.N) (h0 : ¬ t.val % 16 = 0) (X Y : FVec Ideal S512x512 .f32)
    (hX : ∀ kk r : Fin 512, (X (ix2 kk r) : EReal) = ((-(slope (th t).val) * ((r.val : ℝ) - (kk.val : ℝ)) : ℝ) : EReal))
    (hY : ∀ kk r : Fin 512, (Y (ix2 kk r) : EReal) = if kk.val / 64 ≤ r.val / 64 then ((-(slope (th t).val) * |(r.val : ℝ) - (kk.val : ℝ)| : ℝ) : EReal) else ⊥)
    (r : Fin 512) (d : Fin 128) :
    out0_B_5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (iblk m c 0 t) (iblk m c 1 t) (iblk m c 2 t) (iblk m c 3 t) (iblk m c 4 t) X Y (ix2 r d)
      = yy (Q m c) (K m c) (Vv m c) (L1 m c) (L2 m c) (L3 m c) (L4 m c) (Ww m c) (tb t) (pr t r) (th t) d := by
  frame_out
  refine pt m c hQ hK hV t _ (fun kk r => ?_) _ (fun a r => ?_) _ _ r d
  · rw [Memref.IsWhole.read_unread (Memref.isWhole_whole cc0_scratch1)]; exact hY kk r
  · rw [show Scf.trips (Scalar.addi 0#32 (Scalar.muli (Scalar.divsi (Scalar.subi (BitVec.ofNat 32 (grid0.coords t 2).val) 0#32) 1#32) 1#32))
      (Scalar.addi 0#32 (Scalar.subi (BitVec.ofNat 32 (grid0.coords t 2).val) 0#32)) 1#32 = 0 from trips2_at _]
    rw [st_k0_t2_zero]
    exact st_inv m c hQ hK hV t X hX _ _ _ _ _ _ _ _ _ _ _ _ _ _ _ _ _ _ _
      (fun hin => by
        rw [View.readAt_eq_ld, Memref.IsWhole.read_unread]
        exact funext fun j => View.ld_unit_apply_of _ _ _ _ _ j fun a => by fin_cases a <;> exact (Nat.zero_add _).symm) a r

end Cert.DiffIdeal.Val
end
-- ==== Proof.DiffScr.lean ====
module
public import proofs.«01_k».proof.Proof.DiffOut
public import Idealize.ShloMosaic.Lib.Pipeline.ValueKit
public import Idealize.ShloMosaic.Lib.Pointwise
public import Idealize.ShloMosaic.Lib.Claim
public import Idealize.ShloMosaic.Lib.VecWindow

@[expose] public section

set_option maxRecDepth 16384
set_option maxHeartbeats 1000000

noncomputable section

namespace Cert.DiffIdeal.Val

open Cert.DiffIdeal Cert.DiffIdeal.Gen Idealize.ShloMosaic Idealize.ShloMosaic.TcCoe Idealize.SL.Sem
open Idealize.ShloMosaic.Pipeline (Dat)
open Cert.DiffMath Cert.DiffSpec
open scoped BigOperators

variable (m : (ℓ : Loc nD τ sig) → Buf (Elt Ideal) ℓ)

/-- What the scratch should hold at a point. -/
def Scr (c : Dev nD) (t : Fin cfg0.N) (X Y : FVec Ideal S512x512 .f32) : Prop := ∀ kk r : Fin 512,
    (X (ix2 kk r) : EReal) = ((-(slope (th t).val) * ((r.val : ℝ) - (kk.val : ℝ)) : ℝ) : EReal)
    ∧ (Y (ix2 kk r) : EReal) = if kk.val / 64 ≤ r.val / 64 then ((-(slope (th t).val) * |(r.val : ℝ) - (kk.val : ℝ)| : ℝ) : EReal) else ⊥

theorem scrA (c : Dev nD) (t : Fin cfg0.N) (h0 : t.val % 16 = 0) : Scr c t (outsAt0 m c t.val t.isLt).2.1 (outsAt0 m c t.val t.isLt).2.2 := by
  intro kk r
  have hs := so0 m c t h0 kk r
  have hd := so1 m c t h0 kk r
  generalize hA : sout0_A_0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (iblk m c 0 t) (iblk m c 1 t) (iblk m c 2 t) (iblk m c 3 t) (iblk m c 4 t) = A at hs
  generalize hB : sout0_A_1 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (iblk m c 0 t) (iblk m c 1 t) (iblk m c 2 t) (iblk m c 3 t) (iblk m c 4 t) = B at hd
  have h := outsAt0_A m c t h0
  rw [hA, hB] at h
  rw [h]
  exact ⟨hs, hd⟩

theorem scrB (c : Dev nD) (t : Fin cfg0.N) (h0 : ¬ t.val % 16 = 0)
    (ih : Scr c ⟨t.val - 1, Nat.lt_of_le_of_lt (Nat.sub_le _ _) t.isLt⟩ (outsAt0 m c (t.val - 1) (Nat.lt_of_le_of_lt (Nat.sub_le _ _) t.isLt)).2.1 (outsAt0 m c (t.val - 1) (Nat.lt_of_le_of_lt (Nat.sub_le _ _) t.isLt)).2.2) :
    Scr c t (outsAt0 m c (t.val - 1) (Nat.lt_of_le_of_lt (Nat.sub_le _ _) t.isLt)).2.1 (outsAt0 m c (t.val - 1) (Nat.lt_of_le_of_lt (Nat.sub_le _ _) t.isLt)).2.2 := by
  intro kk r
  have e : th t = th ⟨t.val - 1, Nat.lt_of_le_of_lt (Nat.sub_le _ _) t.isLt⟩ := Fin.ext (by show t.val / 16 % 8 = (t.val - 1) / 16 % 8; omega)
  rw [e]
  exact ih kk r

/-- What the scratch holds at every point. -/
theorem scr (c : Dev nD) (n : ℕ) : ∀ t : Fin cfg0.N, t.val = n → Scr c t (outsAt0 m c t.val t.isLt).2.1 (outsAt0 m c t.val t.isLt).2.2 := by
  induction n with
  | zero =>
    intro t ht
    exact scrA m c t (by omega)
  | succ n ih =>
    intro t ht
    by_cases h0 : t.val % 16 = 0
    · exact scrA m c t h0
    · intro kk r
      have h := outsAt0_B m c t h0
      have h1 := congrArg (fun x => x.2.1) h
      have h2 := congrArg (fun x => x.2.2) h
      have hs := scrB m c t h0 (ih ⟨t.val - 1, Nat.lt_of_le_of_lt (Nat.sub_le _ _) t.isLt⟩ (by show t.val - 1 = n; omega)) kk r
      exact ⟨(congrFun h1 _).trans hs.1, (congrFun h2 _).trans hs.2⟩

end Cert.DiffIdeal.Val
end
-- ==== Proof.DiffVal.lean ====
module
public import proofs.«01_k».proof.Proof.DiffScr
public import Idealize.ShloMosaic.Lib.Pipeline.ValueKit
public import Idealize.ShloMosaic.Lib.Pointwise
public import Idealize.ShloMosaic.Lib.Claim
public import Idealize.ShloMosaic.Lib.VecWindow

@[expose] public section

set_option maxRecDepth 16384
set_option maxHeartbeats 1000000

noncomputable section

namespace Cert.DiffIdeal.Val

open Cert.DiffIdeal Cert.DiffIdeal.Gen Idealize.ShloMosaic Idealize.ShloMosaic.TcCoe Idealize.SL.Sem
open Idealize.ShloMosaic.Pipeline (Dat)
open Cert.DiffMath Cert.DiffSpec
open scoped BigOperators

variable (m : (ℓ : Loc nD τ sig) → Buf (Elt Ideal) ℓ)

/-- The block written at any point. -/
theorem outs (c : Dev nD) (hQ : Fine (Q m c)) (hK : Fine (K m c)) (hV : Fine (Vv m c)) (t : Fin cfg0.N) (r : Fin 512) (d : Fin 128) :
    ((outsAt0 m c t.val t.isLt).1 (ix2 r d) : EReal)
      = yy (Q m c) (K m c) (Vv m c) (L1 m c) (L2 m c) (L3 m c) (L4 m c) (Ww m c) (tb t) (pr t r) (th t) d := by
  by_cases h0 : t.val % 16 = 0
  · have ho := outA m c hQ hK hV t h0 r d
    generalize hA : out0_A_5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (iblk m c 0 t) (iblk m c 1 t) (iblk m c 2 t) (iblk m c 3 t) (iblk m c 4 t) = A at ho
    have h := outsAt0_A m c t h0
    rw [hA] at h
    rw [h]
    exact ho
  · have hs := scr m c _ ⟨t.val - 1, Nat.lt_of_le_of_lt (Nat.sub_le _ _) t.isLt⟩ rfl
    have hs' := scrB m c t h0 hs
    have ho := outB m c hQ hK hV t h0 _ _ (fun kk r => (hs' kk r).1) (fun kk r => (hs' kk r).2) r d
    generalize hA : out0_B_5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2 = A at ho
    have h := outsAt0_B m c t h0
    rw [hA] at h
    rw [h]
    exact ho

/-- The specification at the entry a block's entry lands on. -/
theorem G_at (c : Dev nD) (t : Fin cfg0.N) (r : Fin 512) (d : Fin 128) (R : Fin 16384) (C : Fin 1024)
    (hR : R.val = (tb t).val * 8192 + pr t r) (hC : C.val = (th t).val * 128 + d.val) :
    G (Q m c) (K m c) (Vv m c) (L1 m c) (L2 m c) (L3 m c) (L4 m c) (Ww m c) (ix2 R C)
      = yy (Q m c) (K m c) (Vv m c) (L1 m c) (L2 m c) (L3 m c) (L4 m c) (Ww m c) (tb t) (pr t r) (th t) d := by
  have hr := r.isLt
  have hd := d.isLt
  have hp : pr t r < 8192 := by unfold pr; omega
  have e1 : ∀ h, (⟨R.val / 8192, h⟩ : Fin 2) = tb t := fun h => Fin.ext (by show R.val / 8192 = (tb t).val; omega)
  have e2 : R.val % 8192 = pr t r := by omega
  have e3 : ∀ h, (⟨C.val / 128, h⟩ : Fin 8) = th t := fun h => Fin.ext (by show C.val / 128 = (th t).val; omega)
  have e4 : ∀ h, (⟨C.val % 128, h⟩ : Fin 128) = d := fun h => Fin.ext (by show C.val % 128 = d.val; omega)
  have a1 : R.val / 8192 < 2 := by omega
  have a3 : C.val / 128 < 8 := by omega
  have a4 : C.val % 128 < 128 := by omega
  refine Eq.trans (b := yy (Q m c) (K m c) (Vv m c) (L1 m c) (L2 m c) (L3 m c) (L4 m c) (Ww m c) (⟨R.val / 8192, a1⟩ : Fin 2) (R.val % 8192) (⟨C.val / 128, a3⟩ : Fin 8) (⟨C.val % 128, a4⟩ : Fin 128)) rfl ?_
  rw [e1, e2, e3, e4]

/-- The call's result array. -/
theorem final5 (c : Dev nD) (hQ : Fine (Q m c)) (hK : Fine (K m c)) (hV : Fine (Vv m c)) : (dats m 0 c).arrAt 5 (cfgs 0).N
    = G (Q m c) (K m c) (Vv m c) (L1 m c) (L2 m c) (L3 m c) (L4 m c) (Ww m c) := by
  refine (dats m 0 c).arrAt_eq_of_covers 5 _ (by decide +kernel) fun t _ y => ?_
  blk_simp
  rw [after0_5]
  have ht := tlt t
  have he : ((View.whole main_v15).slice (win0_5.rect t)).emb y = ix2 (⟨(tb t).val * 8192 + pr t (y 0), by have : (y 0).val < 512 := (y 0).isLt; have := (tb t).isLt; unfold pr; omega⟩ : Fin 16384)
      (⟨(th t).val * 128 + (y 1).val, by have : (y 1).val < 128 := (y 1).isLt; have := (th t).isLt; omega⟩ : Fin 1024) := by
    blk_ext [idx t]
    · show _ = t.val / 128 * 8192 + (t.val % 16 * 512 + (y 0).val)
      omega
    · rfl
  rw [he]
  refine (congrArg _ (eq_ix2 y)).trans ((outs m c hQ hK hV t (y 0) (y 1)).trans ?_)
  exact (G_at m c t (y 0) (y 1) _ _ rfl rfl).symm

end Cert.DiffIdeal.Val
end
-- ==== Proof.DiffRefA.lean ====
module
public import proofs.«01_k».proof.Proof.DiffSpec
public import proofs.«01_k».proof.Proof.Gen.DiffRefIdeal.Run
public import Idealize.ShloMosaic.Lib.Pointwise
public import Idealize.ShloMosaic.Lib.Claim

@[expose] public section

set_option maxRecDepth 16384
set_option maxHeartbeats 2000000

noncomputable section

namespace Cert.DiffRefIdeal.Val

open Cert.DiffRefIdeal Cert.DiffRefIdeal.Gen Idealize.ShloMosaic Idealize.ShloMosaic.TcCoe Idealize.SL.Sem Idealize.ShloMosaic.StableHlo
open Cert.DiffMath Cert.DiffSpec
open scoped BigOperators

/-- The weight of the second map. -/
def lamA (A3 A4 A5 A6 : FVec Ideal S64 .f32) : FVec Ideal S_ .f32 :=
  (addf (subf (Host.exp ((fun x v => Host.reduceAdd x v reducesTo_S64_S_d0 h_S_) (mulf A3 A4) (constant S_ .f32 0x00000000#32))) (Host.exp ((fun x v => Host.reduceAdd x v reducesTo_S64_S_d0 h_S_) (mulf A5 A6) (constant S_ .f32 0x00000000#32)))) (constant S_ .f32 0x3E4CCCCD#32))

/-- The distance penalty. -/
def biasA  : FVec Ideal S8x8192x8192 .f32 :=
  (mulf (broadcastInDim S8x8192x8192 ![0, 1, 2] bcast_S8x1x1_S8x8192x8192_0_1_2 (Host.negf (broadcastInDim S8x1x1 ![0] bcast_S8_S8x1x1_0 (fun i => FloatOps.ofBits (F := Ideal) .f32 (lit0 (S8.rowMajor i)))))) (broadcastInDim S8x8192x8192 ![0, 1, 2] bcast_S1x8192x8192_S8x8192x8192_0_1_2 (broadcastInDim S1x8192x8192 ![1, 2] bcast_S8192x8192_S1x8192x8192_1_2 (sitofp .f32 (absi (subi (broadcastInDim S8192x8192 ![0, 1] bcast_S8192x1_S8192x8192_0_1 (broadcastInDim S8192x1 ![0] bcast_S8192_S8192x1_0 (iotaInDim S8192 32 0))) (broadcastInDim S8192x8192 ![0, 1] bcast_S1x8192_S8192x8192_0_1 (broadcastInDim S1x8192 ![1] bcast_S8192_S1x8192_1 (iotaInDim S8192 32 0)))))))))

/-- Which keys a position may look at. -/
def allowA  : IVec S8192x8192 1 :=
  (cmpi .sle (broadcastInDim S8192x8192 ![0, 1] bcast_S1x8192_S8192x8192_0_1 (broadcastInDim S1x8192 ![1] bcast_S8192_S1x8192_1 (Host.divsi (iotaInDim S8192 32 0) (broadcastInDim S8192 ![] bcast_S_S8192 (constantI S_ 32 64#32))))) (broadcastInDim S8192x8192 ![0, 1] bcast_S8192x1_S8192x8192_0_1 (broadcastInDim S8192x1 ![0] bcast_S8192_S8192x1_0 (Host.divsi (iotaInDim S8192 32 0) (broadcastInDim S8192 ![] bcast_S_S8192 (constantI S_ 32 64#32))))))

/-- The first half of the queries (or keys). -/
def cut0 (A0 : FVec Ideal S2x8192x8x2x64 .f32) : FVec Ideal S2x8192x8x64 .f32 :=
  (shapeCast S2x8192x8x64 (extractStridedSlice S2x8192x8x1x64 ![0, 0, 0, 0, 0] A0 slices_S2x8192x8x2x64_S2x8192x8x1x64_0_0_0_0_0) shapeCasts_S2x8192x8x1x64_S2x8192x8x64)

/-- The second half of the queries (or keys). -/
def cut1 (A0 : FVec Ideal S2x8192x8x2x64 .f32) : FVec Ideal S2x8192x8x64 .f32 :=
  (shapeCast S2x8192x8x64 (extractStridedSlice S2x8192x8x1x64 ![0, 0, 0, 1, 0] A0 slices_S2x8192x8x2x64_S2x8192x8x1x64_0_0_0_1_0) shapeCasts_S2x8192x8x1x64_S2x8192x8x64)

/-- The masked scores of one map. -/
def scA (x y : FVec Ideal S2x8192x8x64 .f32) : FVec Ideal S2x8x8192x8192 .f32 :=
  (select (broadcastInDim S2x8x8192x8192 ![2, 3] bcast_S8192x8192_S2x8x8192x8192_2_3 allowA) (addf (mulf ((fun l r => Host.dotGeneral dot_S2x8192x8x64_S2x8192x8x64_S2x8x8192x8192_3_3_1_1_02_02 none l r) x y) (broadcastInDim S2x8x8192x8192 ![] bcast_S_S2x8x8192x8192 (constant S_ .f32 0x3E000000#32))) (broadcastInDim S2x8x8192x8192 ![0, 1, 2, 3] bcast_S1x8x8192x8192_S2x8x8192x8192_0_1_2_3 (broadcastInDim S1x8x8192x8192 ![1, 2, 3] bcast_S8x8192x8192_S1x8x8192x8192_1_2_3 biasA))) (broadcastInDim S2x8x8192x8192 ![] bcast_S_S2x8x8192x8192 (constant S_ .f32 0xFF800000#32)))

/-- The exponentials of the scores less their maximum. -/
def exA (s : FVec Ideal S2x8x8192x8192 .f32) : FVec Ideal S2x8x8192x8192 .f32 :=
  (Host.exp (subf s (broadcastInDim S2x8x8192x8192 ![0, 1, 2, 3] bcast_S2x8x8192x1_S2x8x8192x8192_0_1_2_3 (broadcastInDim S2x8x8192x1 ![0, 1, 2] bcast_S2x8x8192_S2x8x8192x1_0_1_2 (maximumf (broadcastInDim S2x8x8192 ![] bcast_S_S2x8x8192 (constant S_ .f32 0xFF800000#32)) ((fun x v => Host.reduce (FloatOps.maximumf (F := Ideal)) x v reducesTo_S2x8x8192x8192_S2x8x8192_d3 h_S_) s (constant S_ .f32 0xFF800000#32)))))))

/-- The exponentials over their sum. -/
def smA (s : FVec Ideal S2x8x8192x8192 .f32) : FVec Ideal S2x8x8192x8192 .f32 :=
  (Host.divf s (broadcastInDim S2x8x8192x8192 ![0, 1, 2, 3] bcast_S2x8x8192x1_S2x8x8192x8192_0_1_2_3 (broadcastInDim S2x8x8192x1 ![0, 1, 2] bcast_S2x8x8192_S2x8x8192x1_0_1_2 ((fun x v => Host.reduceAdd x v reducesTo_S2x8x8192x8192_S2x8x8192_d3 h_S_) s (constant S_ .f32 0x00000000#32)))))

/-- The difference of the maps. -/
def coA (s t : FVec Ideal S2x8x8192x8192 .f32) (l : FVec Ideal S_ .f32) : FVec Ideal S2x8x8192x8192 .f32 :=
  (subf s (mulf (broadcastInDim S2x8x8192x8192 ![] bcast_S_S2x8x8192x8192 l) t))

/-- The average of the values. -/
def oA (V : FVec Ideal S2x8192x8x128 .f32) (s : FVec Ideal S2x8x8192x8192 .f32) : FVec Ideal S2x8192x8x128 .f32 :=
  (transpose S2x8192x8x128 [0, 3, 1, 2] ((fun l r => Host.dotGeneral dot_S2x8192x8x128_S2x8x8192x8192_S2x8x128x8192_1_3_3_2_02_01 none l r) V s) transposes_S2x8x128x8192_S2x8192x8x128_0_3_1_2)

/-- The scale of the norm. -/
def rsA (o : FVec Ideal S2x8192x8x128 .f32) : FVec Ideal S2x8192x8x1 .f32 :=
  (Host.rsqrt (addf (Host.divf (broadcastInDim S2x8192x8x1 ![0, 1, 2] bcast_S2x8192x8_S2x8192x8x1_0_1_2 ((fun x v => Host.reduceAdd x v reducesTo_S2x8192x8x128_S2x8192x8_d3 h_S_) (mulf o o) (constant S_ .f32 0x00000000#32))) (broadcastInDim S2x8192x8x1 ![] bcast_S_S2x8192x8x1 (constant S_ .f32 0x43000000#32))) (broadcastInDim S2x8192x8x1 ![] bcast_S_S2x8192x8x1 (constant S_ .f32 0x358637BD#32))))

/-- The norm, weighted. -/
def outA (o : FVec Ideal S2x8192x8x128 .f32) (r : FVec Ideal S2x8192x8x1 .f32) (w : FVec Ideal S128 .f32) : FVec Ideal S16384x1024 .bf16 :=
  (truncf .bf16 (shapeCast S16384x1024 (mulf (mulf (mulf o (broadcastInDim S2x8192x8x128 ![0, 1, 2, 3] bcast_S2x8192x8x1_S2x8192x8x128_0_1_2_3 r)) (broadcastInDim S2x8192x8x128 ![0, 1, 2, 3] bcast_S1x1x1x128_S2x8192x8x128_0_1_2_3 (broadcastInDim S1x1x1x128 ![3] bcast_S128_S1x1x1x128_3 w))) (broadcastInDim S2x8192x8x128 ![] bcast_S_S2x8192x8x128 (constant S_ .f32 0x3F4CCCCD#32))) shapeCasts_S2x8192x8x128_S16384x1024) bitsLt_bf16_f32)

theorem res_eq (m : (ℓ : Loc nD τ sig) → Buf (Elt Ideal) ℓ) (c : Dev nD) :
    Cert.DiffRefIdeal.Value.res_main_v98 (F := Ideal) m c
      = (let M := fun (b : Ref sig .tc) => m ((c.tc : Thread nD τ).loc b)
         let s0 := exA (scA (cut0 (M main_arg0)) (cut0 (M main_arg1)))
         let s1 := exA (scA (cut1 (M main_arg0)) (cut1 (M main_arg1)))
         let o := oA (M main_arg2) (coA (smA s0) (smA s1) (lamA (M main_arg3) (M main_arg4) (M main_arg5) (M main_arg6)))
         outA o (rsA o) (M main_arg7)) := by
  unfold Cert.DiffRefIdeal.Value.res_main_v98
  rfl

end Cert.DiffRefIdeal.Val
end
-- ==== Proof.DiffRefP.lean ====
module
public import proofs.«01_k».proof.Proof.DiffSpec
public import proofs.«01_k».proof.Proof.DiffRefA
public import proofs.«01_k».proof.Proof.Gen.DiffRefIdeal.Run
public import Idealize.ShloMosaic.Lib.Pointwise
public import Idealize.ShloMosaic.Lib.Claim

@[expose] public section

set_option maxRecDepth 16384
set_option maxHeartbeats 2000000

noncomputable section

namespace Cert.DiffRefIdeal.Val

open Cert.DiffRefIdeal Cert.DiffRefIdeal.Gen Idealize.ShloMosaic Idealize.ShloMosaic.TcCoe Idealize.SL.Sem Idealize.ShloMosaic.StableHlo
open Cert.DiffMath Cert.DiffSpec
open scoped BigOperators

theorem lamA_at (A3 A4 A5 A6 : FVec Ideal S64 .f32) : (lamA A3 A4 A5 A6 ix0 : EReal) = lam A3 A4 A5 A6 := by
  unfold lam
  pointwise [lamA]
theorem cut0_at (Q : FVec Ideal S2x8192x8x2x64 .f32) (b : Fin 2) (p : Fin 8192) (h : Fin 8) (x : Fin 64) : (cut0 Q (ix4 b p h x) : EReal) = Q (ix5 b p h (0 : Fin 2) x) := by
  pointwise [cut0]
theorem cut1_at (Q : FVec Ideal S2x8192x8x2x64 .f32) (b : Fin 2) (p : Fin 8192) (h : Fin 8) (x : Fin 64) : (cut1 Q (ix4 b p h x) : EReal) = Q (ix5 b p h (1 : Fin 2) x) := by
  pointwise [cut1]
theorem smA_at (s : FVec Ideal S2x8x8192x8192 .f32) (b : Fin 2) (h : Fin 8) (p k : Fin 8192) :
    (smA s (ix4 b h p k) : EReal) = Ideal.div (s (ix4 b h p k)) (∑ x : Fin 8192, s (ix4 b h p x)) := by
  pointwise [smA]
theorem coA_at (s t : FVec Ideal S2x8x8192x8192 .f32) (l : FVec Ideal S_ .f32) (b : Fin 2) (h : Fin 8) (p k : Fin 8192) :
    (coA s t l (ix4 b h p k) : EReal) = s (ix4 b h p k) - l ix0 * t (ix4 b h p k) := by
  pointwise [coA]
theorem oA_at (s : FVec Ideal S2x8x8192x8192 .f32) (V : FVec Ideal S2x8192x8x128 .f32) (b : Fin 2) (h : Fin 8) (p : Fin 8192) (d : Fin 128) :
    (oA V s (ix4 b p h d) : EReal) = ∑ x : Fin 8192, V (ix4 b x h d) * s (ix4 b h p x) := by
  pointwise [oA]
theorem rsA_at (o : FVec Ideal S2x8192x8x128 .f32) (b : Fin 2) (h : Fin 8) (p : Fin 8192) :
    (rsA o (ix4 b p h (0 : Fin 1)) : EReal) = Ideal.rsqrt (Ideal.div (∑ x : Fin 128, o (ix4 b p h x) * o (ix4 b p h x)) (Ideal.ofBits .f32 0x43000000#32) + Ideal.ofBits .f32 0x358637BD#32) := by
  pointwise [rsA]
theorem outA_at (o : FVec Ideal S2x8192x8x128 .f32) (r : FVec Ideal S2x8192x8x1 .f32) (w : FVec Ideal S128 .f32) (b : Fin 2) (h : Fin 8) (p : Fin 8192) (d : Fin 128) :
    (outA o r w (ix2 (⟨b.val * 8192 + p.val, by omega⟩ : Fin 16384) (⟨h.val * 128 + d.val, by omega⟩ : Fin 1024)) : EReal)
      = o (ix4 b p h d) * r (ix4 b p h (0 : Fin 1)) * w (ix1 d) * Ideal.ofBits .f32 0x3F4CCCCD#32 := by
  pointwise [outA]

end Cert.DiffRefIdeal.Val
end
-- ==== Proof.DiffRefE.lean ====
module
public import proofs.«01_k».proof.Proof.DiffSpec
public import proofs.«01_k».proof.Proof.DiffRefA
public import proofs.«01_k».proof.Proof.Gen.DiffRefIdeal.Run
public import Idealize.ShloMosaic.Lib.Pointwise
public import Idealize.ShloMosaic.Lib.Claim

@[expose] public section

set_option maxRecDepth 16384
set_option maxHeartbeats 2000000

noncomputable section

namespace Cert.DiffRefIdeal.Val

open Cert.DiffRefIdeal Cert.DiffRefIdeal.Gen Idealize.ShloMosaic Idealize.ShloMosaic.TcCoe Idealize.SL.Sem Idealize.ShloMosaic.StableHlo
open Cert.DiffMath Cert.DiffSpec
open scoped BigOperators

theorem mxA_at (s : FVec Ideal S2x8x8192x8192 .f32) (init : FVec Ideal S_ .f32) (b : Fin 2) (h : Fin 8) (p : Fin 8192) :
    Host.reduce (FloatOps.maximumf (F := Ideal) (φ := .f32)) s init reducesTo_S2x8x8192x8192_S2x8x8192_d3 h_S_ (ix3 b h p)
      = Finset.fold max (init (Shape.Idx.first h_S_)) (fun x : Fin 8192 => (s (ix4 b h p x) : EReal)) Finset.univ := by
  refine (Host.reduce_eq_fold _ _ _ _ _ _).trans ?_
  exact Shape.ReducesTo.fold_fiber_r4_a3 reducesTo_S2x8x8192x8192_S2x8x8192_d3 (ix3 b h p) (max : EReal → EReal → EReal) _ s
/-- The exponentials, from the row maxima. -/
def exM (s : FVec Ideal S2x8x8192x8192 .f32) (M : FVec Ideal S2x8x8192 .f32) : FVec Ideal S2x8x8192x8192 .f32 :=
  (Host.exp (subf s (broadcastInDim S2x8x8192x8192 ![0, 1, 2, 3] bcast_S2x8x8192x1_S2x8x8192x8192_0_1_2_3 (broadcastInDim S2x8x8192x1 ![0, 1, 2] bcast_S2x8x8192_S2x8x8192x1_0_1_2 (maximumf (broadcastInDim S2x8x8192 ![] bcast_S_S2x8x8192 (constant S_ .f32 0xFF800000#32)) M)))))
theorem exM_at (s : FVec Ideal S2x8x8192x8192 .f32) (M : FVec Ideal S2x8x8192 .f32) (b : Fin 2) (h : Fin 8) (p k : Fin 8192) :
    (exM s M (ix4 b h p k) : EReal) = Ideal.exp (s (ix4 b h p k) - max (Ideal.ofBits .f32 0xFF800000#32) (M (ix3 b h p))) := by
  pointwise [exM]
theorem exA_at (s : FVec Ideal S2x8x8192x8192 .f32) (b : Fin 2) (h : Fin 8) (p k : Fin 8192) :
    (exA s (ix4 b h p k) : EReal) = Ideal.exp (s (ix4 b h p k) - max (Ideal.ofBits .f32 0xFF800000#32) (Finset.fold max (Ideal.ofBits .f32 0xFF800000#32) (fun x : Fin 8192 => (s (ix4 b h p x) : EReal)) Finset.univ)) := by
  refine (exM_at s (Host.reduce (FloatOps.maximumf (F := Ideal) (φ := .f32)) s (constant S_ .f32 0xFF800000#32) reducesTo_S2x8x8192x8192_S2x8x8192_d3 h_S_) b h p k).trans ?_
  rw [mxA_at]
  rfl

end Cert.DiffRefIdeal.Val
end
-- ==== Proof.DiffRefI.lean ====
module
public import proofs.«01_k».proof.Proof.DiffSpec
public import proofs.«01_k».proof.Proof.DiffRefA
public import proofs.«01_k».proof.Proof.Gen.DiffRefIdeal.Run
public import Idealize.ShloMosaic.Lib.Pointwise
public import Idealize.ShloMosaic.Lib.Claim

@[expose] public section

set_option maxRecDepth 16384
set_option maxHeartbeats 2000000

noncomputable section

namespace Cert.DiffRefIdeal.Val

open Cert.DiffRefIdeal Cert.DiffRefIdeal.Gen Idealize.ShloMosaic Idealize.ShloMosaic.TcCoe Idealize.SL.Sem Idealize.ShloMosaic.StableHlo
open Cert.DiffMath Cert.DiffSpec
open scoped BigOperators

theorem toInt_at (x : Fin 8192) : (BitVec.ofNat 32 x.val).toInt = (x.val : ℤ) := by
  have h := x.isLt
  have e : (BitVec.ofNat 32 x.val).toNat = x.val := by rw [BitVec.toNat_ofNat]; omega
  rw [BitVec.toInt_eq_toNat_of_lt (by omega), e]
theorem sub_toInt (p k : Fin 8192) : (IntOp.subi (BitVec.ofNat 32 p.val) (BitVec.ofNat 32 k.val)).toInt = (p.val : ℤ) - (k.val : ℤ) := by
  have h1 := p.isLt
  have h2 := k.isLt
  unfold IntOp.subi
  rw [BitVec.toInt_sub, toInt_at, toInt_at, Int.bmod_def]
  have h : ((2 ^ 32 : ℕ) : ℤ) = 4294967296 := by norm_num
  simp only [h]
  split <;> omega
theorem abs_toInt (p k : Fin 8192) : (IntOp.absi (IntOp.subi (BitVec.ofNat 32 p.val) (BitVec.ofNat 32 k.val))).toInt = |(p.val : ℤ) - (k.val : ℤ)| := by
  have h1 := p.isLt
  have h2 := k.isLt
  have hs := sub_toInt p k
  unfold IntOp.absi
  generalize IntOp.subi (BitVec.ofNat 32 p.val) (BitVec.ofNat 32 k.val) = x at hs ⊢
  rw [BitVec.msb_eq_toInt, hs]
  by_cases hc : (p.val : ℤ) - (k.val : ℤ) < 0
  · rw [if_pos (by simpa using hc), BitVec.toInt_neg, hs, abs_of_neg hc, Int.bmod_def]
    have h : ((2 ^ 32 : ℕ) : ℤ) = 4294967296 := by norm_num
    simp only [h]
    split <;> omega
  · rw [if_neg (by simpa using hc), hs, abs_of_nonneg (by omega)]

theorem tbl : ∀ h : Fin 8, lit0 (S8.rowMajor (ix1 h))
    = (![0x3F000000#32, 0x3E800000#32, 0x3E000000#32, 0x3D800000#32, 0x3D000000#32, 0x3C800000#32, 0x3C000000#32, 0x3B800000#32] : Fin 8 → BitVec 32) h := by
  decide +kernel
theorem tbl_at (h : Fin 8) : Ideal.ofBits .f32 (lit0 (S8.rowMajor (ix1 h))) = ((slope h.val : ℝ) : EReal) := by
  obtain ⟨s0, s1, s2, s3, s4, s5, s6, s7⟩ := slope_table
  rw [tbl]
  match h with
  | 0 => exact s0
  | 1 => exact s1
  | 2 => exact s2
  | 3 => exact s3
  | 4 => exact s4
  | 5 => exact s5
  | 6 => exact s6
  | 7 => exact s7

theorem biasA_at (h : Fin 8) (p k : Fin 8192) : (biasA (ix3 h p k) : EReal) = ((-(slope h.val) * |(p.val : ℝ) - (k.val : ℝ)| : ℝ) : EReal) := by
  have e : (biasA (ix3 h p k) : EReal) = -Ideal.ofBits .f32 (lit0 (S8.rowMajor (ix1 h))) * (((IntOp.absi (IntOp.subi (BitVec.ofNat 32 p.val) (BitVec.ofNat 32 k.val))).toInt : ℝ) : EReal) := by
    pointwise [biasA]
    rfl
  rw [e, tbl_at, abs_toInt, ← EReal.coe_neg, ← EReal.coe_mul]
  push_cast
  rfl

theorem div_at : ∀ x : Fin 8192, IntOp.divsi ArithUnit.host (BitVec.ofNat 32 x.val) 64#32 = BitVec.ofNat 32 (x.val / 64) := by decide +kernel
theorem sle_at : ∀ x y : Fin 128, IntOp.cmpi .sle (BitVec.ofNat 32 x.val) (BitVec.ofNat 32 y.val) = if x.val ≤ y.val then 1#1 else 0#1 := by decide +kernel
theorem allowA_at (p k : Fin 8192) : allowA (ix2 p k) = if okk p.val k.val then 1#1 else 0#1 := by
  have e : allowA (ix2 p k) = IntOp.cmpi .sle (IntOp.divsi ArithUnit.host (BitVec.ofNat 32 k.val) 64#32) (IntOp.divsi ArithUnit.host (BitVec.ofNat 32 p.val) 64#32) := by
    pointwise [allowA]
  rw [e, div_at, div_at, sle_at ⟨k.val / 64, by omega⟩ ⟨p.val / 64, by omega⟩]
  rfl

end Cert.DiffRefIdeal.Val
end
-- ==== Proof.DiffRefB.lean ====
module
public import proofs.«01_k».proof.Proof.DiffSpec
public import proofs.«01_k».proof.Proof.DiffRefP
public import proofs.«01_k».proof.Proof.DiffRefE
public import proofs.«01_k».proof.Proof.DiffRefI
public import proofs.«01_k».proof.Proof.Gen.DiffRefIdeal.Run
public import Idealize.ShloMosaic.Lib.Pointwise
public import Idealize.ShloMosaic.Lib.Claim

@[expose] public section

set_option maxRecDepth 16384
set_option maxHeartbeats 2000000

noncomputable section

namespace Cert.DiffRefIdeal.Val

open Cert.DiffRefIdeal Cert.DiffRefIdeal.Gen Idealize.ShloMosaic Idealize.ShloMosaic.TcCoe Idealize.SL.Sem Idealize.ShloMosaic.StableHlo
open Cert.DiffMath Cert.DiffSpec
open scoped BigOperators

theorem scA_raw (X Y : FVec Ideal S2x8192x8x64 .f32) (b : Fin 2) (h : Fin 8) (p k : Fin 8192) : (scA X Y (ix4 b h p k) : EReal)
    = Scalar.select (allowA (ix2 p k)) (((∑ x : Fin 64, X (ix4 b p h x) * Y (ix4 b k h x)) * Ideal.ofBits .f32 0x3E000000#32 + biasA (ix3 h p k) : EReal)) (Ideal.ofBits .f32 0xFF800000#32) := by
  pointwise [scA]

/-- The masked scores of map `a`: a real where the key may be looked at, nothing elsewhere. -/
theorem scA_at (Q K : FVec Ideal S2x8192x8x2x64 .f32) (hQ : Fine Q) (hK : Fine K) (a : Fin 2) (X Y : FVec Ideal S2x8192x8x64 .f32)
    (hX : ∀ (b : Fin 2) (p : Fin 8192) (h : Fin 8) (x : Fin 64), (X (ix4 b p h x) : EReal) = Q (ix5 b p h a x))
    (hY : ∀ (b : Fin 2) (p : Fin 8192) (h : Fin 8) (x : Fin 64), (Y (ix4 b p h x) : EReal) = K (ix5 b p h a x))
    (b : Fin 2) (h : Fin 8) (p k : Fin 8192) :
    (scA X Y (ix4 b h p k) : EReal) = if okk p.val k.val then ((sc Q K b h a p.val k.val : ℝ) : EReal) else ⊥ := by
  rw [scA_raw, allowA_at, biasA_at, ofBits_ninf, ofBits_eighth]
  have hs : (∑ x : Fin 64, (X (ix4 b p h x) : EReal) * Y (ix4 b k h x)) = ((∑ x : Fin 64, at5 Q b p.val h a x * at5 K b k.val h a x : ℝ) : EReal) := by
    rw [coe_sum]
    refine Finset.sum_congr rfl fun x _ => ?_
    rw [hX, hY, EReal.coe_mul, at5_eq Q hQ b p.val p.isLt h a x, at5_eq K hK b k.val k.isLt h a x]
  by_cases hc : okk p.val k.val
  · rw [if_pos hc, if_pos hc]
    refine (if_pos rfl).trans ?_
    rw [hs, ← EReal.coe_mul, ← EReal.coe_add]
    unfold sc
    congr 1; ring
  · rw [if_neg hc, if_neg hc]
    exact if_neg (by decide)

theorem mx_real (S : Fin 8192 → EReal) (ok : ℕ → Prop) [DecidablePred ok] (s : ℕ → ℝ) (hS : ∀ k : Fin 8192, S k = if ok k.val then ((s k.val : ℝ) : EReal) else ⊥)
    (hne : ∃ k, k < 8192 ∧ ok k) : ∃ R : ℝ, max (Ideal.ofBits .f32 0xFF800000#32) (Finset.fold max (Ideal.ofBits .f32 0xFF800000#32) S Finset.univ) = (R : EReal) := by
  rw [show Finset.fold max (Ideal.ofBits .f32 0xFF800000#32) S Finset.univ = Finset.univ.sup S by rw [ofBits_ninf]; rfl, ofBits_ninf]
  obtain ⟨R, hR⟩ := sup_real S (fun k => by
    rw [hS k]; split
    · exact EReal.coe_ne_top _
    · exact bot_ne_top) (by
    obtain ⟨k, hk, ho⟩ := hne
    exact ⟨⟨k, hk⟩, by rw [hS ⟨k, hk⟩, if_pos ho]; exact EReal.coe_ne_bot _⟩)
  exact ⟨R, by rw [hR]; exact max_eq_right bot_le⟩

/-- The difference of the two maps' averages. -/
theorem o_at (Q K : FVec Ideal S2x8192x8x2x64 .f32) (V : FVec Ideal S2x8192x8x128 .f32) (l1 l2 l3 l4 : FVec Ideal S64 .f32)
    (hQ : Fine Q) (hK : Fine K) (hV : Fine V) (h1 : Fine l1) (h2 : Fine l2) (h3 : Fine l3) (h4 : Fine l4)
    (b : Fin 2) (h : Fin 8) (p : Fin 8192) (d : Fin 128) :
    (oA V (coA (smA (exA (scA (cut0 Q) (cut0 K)))) (smA (exA (scA (cut1 Q) (cut1 K)))) (lamA l1 l2 l3 l4)) (ix4 b p h d) : EReal)
      = xx Q K V l1 l2 l3 l4 b p.val h d := by
  have g0 := scA_at Q K hQ hK 0 (cut0 Q) (cut0 K) (cut0_at Q) (cut0_at K) b h p
  have g1 := scA_at Q K hQ hK 1 (cut1 Q) (cut1 K) (cut1_at Q) (cut1_at K) b h p
  generalize scA (cut0 Q) (cut0 K) = s0 at g0 ⊢
  generalize scA (cut1 Q) (cut1 K) = s1 at g1 ⊢
  have hne : ∃ k, k < 8192 ∧ okk p.val k := ⟨p.val, p.isLt, le_refl _⟩
  obtain ⟨M0, hM0⟩ := mx_real (fun x : Fin 8192 => (s0 (ix4 b h p x) : EReal)) (okk p.val) (sc Q K b h 0 p.val) g0 hne
  obtain ⟨M1, hM1⟩ := mx_real (fun x : Fin 8192 => (s1 (ix4 b h p x) : EReal)) (okk p.val) (sc Q K b h 1 p.val) g1 hne
  obtain ⟨r, hr⟩ := lam_real l1 l2 l3 l4 h1 h2 h3 h4
  rw [oA_at]
  simp only [coA_at, smA_at, exA_at, hM0, hM1, lamA_at, hr]
  unfold xx
  rw [hr]
  exact plain (okk p.val) (sc Q K b h 0 p.val) 8192 (sc Q K b h 1 p.val) (vl V b h d) (fun k => V (ix4 b k h d)) _ _ r M0 M1
    (fun k => vl_eq V hV b k.val k.isLt h d) g0 g1 hne

theorem outG (Q K : FVec Ideal S2x8192x8x2x64 .f32) (V : FVec Ideal S2x8192x8x128 .f32) (l1 l2 l3 l4 : FVec Ideal S64 .f32) (w : FVec Ideal S128 .f32)
    (o : FVec Ideal S2x8192x8x128 .f32) (ho : ∀ (b : Fin 2) (h : Fin 8) (p : Fin 8192) (d : Fin 128), (o (ix4 b p h d) : EReal) = xx Q K V l1 l2 l3 l4 b p.val h d) :
    outA o (rsA o) w = G Q K V l1 l2 l3 l4 w := by
  refine funext fun (i : S16384x1024.Idx) => ?_
  have i0 : (i 0).val < 16384 := (i 0).isLt
  have i1 : (i 1).val < 1024 := (i 1).isLt
  have hi : i = ix2 (⟨(⟨(i 0).val / 8192, by omega⟩ : Fin 2).val * 8192 + (⟨(i 0).val % 8192, by omega⟩ : Fin 8192).val, by dsimp only; omega⟩ : Fin 16384)
      (⟨(⟨(i 1).val / 128, by omega⟩ : Fin 8).val * 128 + (⟨(i 1).val % 128, by omega⟩ : Fin 128).val, by dsimp only; omega⟩ : Fin 1024) := by
    refine (eq_ix2 i).trans ?_
    congr 1 <;> exact Fin.ext (by dsimp only; omega)
  refine (congrArg (outA o (rsA o) w) hi).trans ((outA_at o (rsA o) w ⟨(i 0).val / 8192, by omega⟩ ⟨(i 1).val / 128, by omega⟩ ⟨(i 0).val % 8192, by omega⟩ ⟨(i 1).val % 128, by omega⟩).trans ?_)
  rw [rsA_at]
  simp only [ho]
  rfl

theorem val (m : (ℓ : Loc nD τ sig) → Buf (Elt Ideal) ℓ) (c : Dev nD)
    (hQ : Fine (s := S2x8192x8x2x64) (m ((c.tc : Thread nD τ).loc main_arg0))) (hK : Fine (s := S2x8192x8x2x64) (m ((c.tc : Thread nD τ).loc main_arg1)))
    (hV : Fine (s := S2x8192x8x128) (m ((c.tc : Thread nD τ).loc main_arg2))) (h1 : Fine (s := S64) (m ((c.tc : Thread nD τ).loc main_arg3)))
    (h2 : Fine (s := S64) (m ((c.tc : Thread nD τ).loc main_arg4))) (h3 : Fine (s := S64) (m ((c.tc : Thread nD τ).loc main_arg5)))
    (h4 : Fine (s := S64) (m ((c.tc : Thread nD τ).loc main_arg6))) :
    Cert.DiffRefIdeal.Value.res_main_v98 (F := Ideal) m c
      = G (m ((c.tc : Thread nD τ).loc main_arg0)) (m ((c.tc : Thread nD τ).loc main_arg1)) (m ((c.tc : Thread nD τ).loc main_arg2)) (m ((c.tc : Thread nD τ).loc main_arg3))
          (m ((c.tc : Thread nD τ).loc main_arg4)) (m ((c.tc : Thread nD τ).loc main_arg5)) (m ((c.tc : Thread nD τ).loc main_arg6)) (m ((c.tc : Thread nD τ).loc main_arg7)) := by
  rw [res_eq]
  exact outG _ _ _ _ _ _ _ _ _ (fun b h p d => o_at _ _ _ _ _ _ _ hQ hK hV h1 h2 h3 h4 b h p d)

end Cert.DiffRefIdeal.Val
end
-- ==== Proof.DiffAlg.lean ====
module
public import proofs.«01_k».proof.Defs
public import proofs.«01_k».proof.Proof.Gen.DiffIdeal.Value
public import proofs.«01_k».proof.Proof.Gen.DiffRefIdeal.Run
public import proofs.«01_k».proof.Proof.Gen.Pre_finite
public import proofs.«01_k».proof.Proof.DiffVal
public import proofs.«01_k».proof.Proof.DiffRefB
public import Idealize.ShloMosaic.Lib.Claim
public import Idealize.ShloMosaic.Lib.Quiescent

@[expose] public section

set_option maxRecDepth 16384
set_option maxHeartbeats 2000000

noncomputable section

namespace Cert.Proof.Diff

open Cert.DiffSpec Idealize.ShloMosaic Idealize.ShloMosaic.TcCoe Idealize.SL.Sem

/-- An array whose entries' absolute values are all below infinity holds real numbers. -/
theorem fine_of {s : Shape} (x : FVec Ideal s .f32) (d : Fin 0 → Fin s.rank) (hb : (⟨0, ![]⟩ : Shape).BroadcastsInDim s d)
    (h : cmpf .olt (Host.absf x) (broadcastInDim s d hb (constant (F := Ideal) (⟨0, ![]⟩ : Shape) .f32 0x7F800000#32)) = fun _ => 1#1) : Fine x := by
  intro i
  have hi : Ideal.cmp .olt (max (x i : EReal) (-(x i : EReal))) (Ideal.ofBits .f32 0x7F800000#32) = 1#1 := congrFun h i
  have htop : Ideal.ofBits .f32 0x7F800000#32 = (⊤ : EReal) := by simp [Ideal.ofBits, Ideal.ieee]
  rw [htop] at hi
  have hlt : max (x i : EReal) (-(x i : EReal)) < ⊤ := by
    by_contra hn
    rw [show Ideal.cmp .olt (max (x i : EReal) (-(x i : EReal))) ⊤ = BitVec.ofBool (decide (max (x i : EReal) (-(x i : EReal)) < ⊤)) from rfl, decide_eq_false hn] at hi
    exact absurd hi (by decide)
  have h1 : (x i : EReal) ≠ ⊤ := fun e => by rw [e] at hlt; exact absurd (lt_of_le_of_lt (le_max_left _ _) hlt) (lt_irrefl _)
  have h2 : (x i : EReal) ≠ ⊥ := fun e => by rw [e, EReal.neg_bot] at hlt; exact absurd (lt_of_le_of_lt (le_max_right _ _) hlt) (lt_irrefl _)
  exact ⟨(x i : EReal).toReal, (EReal.coe_toReal h1 h2).symm⟩

/-- The kernel's run, from finite arguments: the result is the array the specification names. -/
theorem run_k (m : (ℓ : Loc Cert.DiffIdeal.nD Cert.DiffIdeal.τ Cert.DiffIdeal.sig) → Buf (Elt Ideal) ℓ) (g : Dev Cert.DiffIdeal.nD → PrngReg)
    (h0 : ∀ c : Dev Cert.DiffIdeal.nD, Fine (s := Cert.DiffIdeal.S2x8192x8x2x64) (m ((c.tc : Thread Cert.DiffIdeal.nD Cert.DiffIdeal.τ).loc Cert.DiffIdeal.main_arg0))) (h1 : ∀ c : Dev Cert.DiffIdeal.nD, Fine (s := Cert.DiffIdeal.S2x8192x8x2x64) (m ((c.tc : Thread Cert.DiffIdeal.nD Cert.DiffIdeal.τ).loc Cert.DiffIdeal.main_arg1))) (h2 : ∀ c : Dev Cert.DiffIdeal.nD, Fine (s := Cert.DiffIdeal.S2x8192x8x128) (m ((c.tc : Thread Cert.DiffIdeal.nD Cert.DiffIdeal.τ).loc Cert.DiffIdeal.main_arg2))) :
    θ_run (Cert.DiffIdeal.defs (F := Ideal)) (onTc (τ := Cert.DiffIdeal.τ) (Cert.DiffIdeal.main (F := Ideal))) ⟨m, fun _ => 0, g⟩ fun r => ∀ c : Dev Cert.DiffIdeal.nD,
    r.2.mem ((c.tc : Thread Cert.DiffIdeal.nD Cert.DiffIdeal.τ).loc Cert.DiffIdeal.main_v15) = G (m ((c.tc : Thread Cert.DiffIdeal.nD Cert.DiffIdeal.τ).loc Cert.DiffIdeal.main_arg0)) (m ((c.tc : Thread Cert.DiffIdeal.nD Cert.DiffIdeal.τ).loc Cert.DiffIdeal.main_arg1)) (m ((c.tc : Thread Cert.DiffIdeal.nD Cert.DiffIdeal.τ).loc Cert.DiffIdeal.main_arg2)) (m ((c.tc : Thread Cert.DiffIdeal.nD Cert.DiffIdeal.τ).loc Cert.DiffIdeal.main_arg3)) (m ((c.tc : Thread Cert.DiffIdeal.nD Cert.DiffIdeal.τ).loc Cert.DiffIdeal.main_arg4)) (m ((c.tc : Thread Cert.DiffIdeal.nD Cert.DiffIdeal.τ).loc Cert.DiffIdeal.main_arg5)) (m ((c.tc : Thread Cert.DiffIdeal.nD Cert.DiffIdeal.τ).loc Cert.DiffIdeal.main_arg6)) (m ((c.tc : Thread Cert.DiffIdeal.nD Cert.DiffIdeal.τ).loc Cert.DiffIdeal.main_arg7))
    ∧ r.2.mem ((c.tc : Thread Cert.DiffIdeal.nD Cert.DiffIdeal.τ).loc Cert.DiffIdeal.main_arg0) = m ((c.tc : Thread Cert.DiffIdeal.nD Cert.DiffIdeal.τ).loc Cert.DiffIdeal.main_arg0)
    ∧ r.2.mem ((c.tc : Thread Cert.DiffIdeal.nD Cert.DiffIdeal.τ).loc Cert.DiffIdeal.main_arg1) = m ((c.tc : Thread Cert.DiffIdeal.nD Cert.DiffIdeal.τ).loc Cert.DiffIdeal.main_arg1)
    ∧ r.2.mem ((c.tc : Thread Cert.DiffIdeal.nD Cert.DiffIdeal.τ).loc Cert.DiffIdeal.main_arg2) = m ((c.tc : Thread Cert.DiffIdeal.nD Cert.DiffIdeal.τ).loc Cert.DiffIdeal.main_arg2)
    ∧ r.2.mem ((c.tc : Thread Cert.DiffIdeal.nD Cert.DiffIdeal.τ).loc Cert.DiffIdeal.main_arg3) = m ((c.tc : Thread Cert.DiffIdeal.nD Cert.DiffIdeal.τ).loc Cert.DiffIdeal.main_arg3)
    ∧ r.2.mem ((c.tc : Thread Cert.DiffIdeal.nD Cert.DiffIdeal.τ).loc Cert.DiffIdeal.main_arg4) = m ((c.tc : Thread Cert.DiffIdeal.nD Cert.DiffIdeal.τ).loc Cert.DiffIdeal.main_arg4)
    ∧ r.2.mem ((c.tc : Thread Cert.DiffIdeal.nD Cert.DiffIdeal.τ).loc Cert.DiffIdeal.main_arg5) = m ((c.tc : Thread Cert.DiffIdeal.nD Cert.DiffIdeal.τ).loc Cert.DiffIdeal.main_arg5)
    ∧ r.2.mem ((c.tc : Thread Cert.DiffIdeal.nD Cert.DiffIdeal.τ).loc Cert.DiffIdeal.main_arg6) = m ((c.tc : Thread Cert.DiffIdeal.nD Cert.DiffIdeal.τ).loc Cert.DiffIdeal.main_arg6)
    ∧ r.2.mem ((c.tc : Thread Cert.DiffIdeal.nD Cert.DiffIdeal.τ).loc Cert.DiffIdeal.main_arg7) = m ((c.tc : Thread Cert.DiffIdeal.nD Cert.DiffIdeal.τ).loc Cert.DiffIdeal.main_arg7) :=
  (θ_run _ _ _).mono (fun r h c => ⟨(h c).1.trans (Cert.DiffIdeal.Val.final5 m c (h0 c) (h1 c) (h2 c)), (h c).2⟩) (Cert.DiffIdeal.Value.run_blocks (F := Ideal) m g)

/-- The reference's run, from finite arguments. -/
theorem run_r (m : (ℓ : Loc Cert.DiffRefIdeal.nD Cert.DiffRefIdeal.τ Cert.DiffRefIdeal.sig) → Buf (Elt Ideal) ℓ) (g : Dev Cert.DiffRefIdeal.nD → PrngReg)
    (h0 : ∀ c : Dev Cert.DiffRefIdeal.nD, Fine (s := Cert.DiffRefIdeal.S2x8192x8x2x64) (m ((c.tc : Thread Cert.DiffRefIdeal.nD Cert.DiffRefIdeal.τ).loc Cert.DiffRefIdeal.main_arg0))) (h1 : ∀ c : Dev Cert.DiffRefIdeal.nD, Fine (s := Cert.DiffRefIdeal.S2x8192x8x2x64) (m ((c.tc : Thread Cert.DiffRefIdeal.nD Cert.DiffRefIdeal.τ).loc Cert.DiffRefIdeal.main_arg1))) (h2 : ∀ c : Dev Cert.DiffRefIdeal.nD, Fine (s := Cert.DiffRefIdeal.S2x8192x8x128) (m ((c.tc : Thread Cert.DiffRefIdeal.nD Cert.DiffRefIdeal.τ).loc Cert.DiffRefIdeal.main_arg2))) (h3 : ∀ c : Dev Cert.DiffRefIdeal.nD, Fine (s := Cert.DiffRefIdeal.S64) (m ((c.tc : Thread Cert.DiffRefIdeal.nD Cert.DiffRefIdeal.τ).loc Cert.DiffRefIdeal.main_arg3))) (h4 : ∀ c : Dev Cert.DiffRefIdeal.nD, Fine (s := Cert.DiffRefIdeal.S64) (m ((c.tc : Thread Cert.DiffRefIdeal.nD Cert.DiffRefIdeal.τ).loc Cert.DiffRefIdeal.main_arg4))) (h5 : ∀ c : Dev Cert.DiffRefIdeal.nD, Fine (s := Cert.DiffRefIdeal.S64) (m ((c.tc : Thread Cert.DiffRefIdeal.nD Cert.DiffRefIdeal.τ).loc Cert.DiffRefIdeal.main_arg5))) (h6 : ∀ c : Dev Cert.DiffRefIdeal.nD, Fine (s := Cert.DiffRefIdeal.S64) (m ((c.tc : Thread Cert.DiffRefIdeal.nD Cert.DiffRefIdeal.τ).loc Cert.DiffRefIdeal.main_arg6))) :
    θ_run (Cert.DiffRefIdeal.defs (F := Ideal)) (onTc (τ := Cert.DiffRefIdeal.τ) (Cert.DiffRefIdeal.main (F := Ideal))) ⟨m, fun _ => 0, g⟩ fun r => ∀ c : Dev Cert.DiffRefIdeal.nD,
    r.2.mem ((c.tc : Thread Cert.DiffRefIdeal.nD Cert.DiffRefIdeal.τ).loc Cert.DiffRefIdeal.main_v98) = G (m ((c.tc : Thread Cert.DiffRefIdeal.nD Cert.DiffRefIdeal.τ).loc Cert.DiffRefIdeal.main_arg0)) (m ((c.tc : Thread Cert.DiffRefIdeal.nD Cert.DiffRefIdeal.τ).loc Cert.DiffRefIdeal.main_arg1)) (m ((c.tc : Thread Cert.DiffRefIdeal.nD Cert.DiffRefIdeal.τ).loc Cert.DiffRefIdeal.main_arg2)) (m ((c.tc : Thread Cert.DiffRefIdeal.nD Cert.DiffRefIdeal.τ).loc Cert.DiffRefIdeal.main_arg3)) (m ((c.tc : Thread Cert.DiffRefIdeal.nD Cert.DiffRefIdeal.τ).loc Cert.DiffRefIdeal.main_arg4)) (m ((c.tc : Thread Cert.DiffRefIdeal.nD Cert.DiffRefIdeal.τ).loc Cert.DiffRefIdeal.main_arg5)) (m ((c.tc : Thread Cert.DiffRefIdeal.nD Cert.DiffRefIdeal.τ).loc Cert.DiffRefIdeal.main_arg6)) (m ((c.tc : Thread Cert.DiffRefIdeal.nD Cert.DiffRefIdeal.τ).loc Cert.DiffRefIdeal.main_arg7))
    ∧ r.2.mem ((c.tc : Thread Cert.DiffRefIdeal.nD Cert.DiffRefIdeal.τ).loc Cert.DiffRefIdeal.main_arg0) = m ((c.tc : Thread Cert.DiffRefIdeal.nD Cert.DiffRefIdeal.τ).loc Cert.DiffRefIdeal.main_arg0)
    ∧ r.2.mem ((c.tc : Thread Cert.DiffRefIdeal.nD Cert.DiffRefIdeal.τ).loc Cert.DiffRefIdeal.main_arg1) = m ((c.tc : Thread Cert.DiffRefIdeal.nD Cert.DiffRefIdeal.τ).loc Cert.DiffRefIdeal.main_arg1)
    ∧ r.2.mem ((c.tc : Thread Cert.DiffRefIdeal.nD Cert.DiffRefIdeal.τ).loc Cert.DiffRefIdeal.main_arg2) = m ((c.tc : Thread Cert.DiffRefIdeal.nD Cert.DiffRefIdeal.τ).loc Cert.DiffRefIdeal.main_arg2)
    ∧ r.2.mem ((c.tc : Thread Cert.DiffRefIdeal.nD Cert.DiffRefIdeal.τ).loc Cert.DiffRefIdeal.main_arg3) = m ((c.tc : Thread Cert.DiffRefIdeal.nD Cert.DiffRefIdeal.τ).loc Cert.DiffRefIdeal.main_arg3)
    ∧ r.2.mem ((c.tc : Thread Cert.DiffRefIdeal.nD Cert.DiffRefIdeal.τ).loc Cert.DiffRefIdeal.main_arg4) = m ((c.tc : Thread Cert.DiffRefIdeal.nD Cert.DiffRefIdeal.τ).loc Cert.DiffRefIdeal.main_arg4)
    ∧ r.2.mem ((c.tc : Thread Cert.DiffRefIdeal.nD Cert.DiffRefIdeal.τ).loc Cert.DiffRefIdeal.main_arg5) = m ((c.tc : Thread Cert.DiffRefIdeal.nD Cert.DiffRefIdeal.τ).loc Cert.DiffRefIdeal.main_arg5)
    ∧ r.2.mem ((c.tc : Thread Cert.DiffRefIdeal.nD Cert.DiffRefIdeal.τ).loc Cert.DiffRefIdeal.main_arg6) = m ((c.tc : Thread Cert.DiffRefIdeal.nD Cert.DiffRefIdeal.τ).loc Cert.DiffRefIdeal.main_arg6)
    ∧ r.2.mem ((c.tc : Thread Cert.DiffRefIdeal.nD Cert.DiffRefIdeal.τ).loc Cert.DiffRefIdeal.main_arg7) = m ((c.tc : Thread Cert.DiffRefIdeal.nD Cert.DiffRefIdeal.τ).loc Cert.DiffRefIdeal.main_arg7) :=
  (θ_run _ _ _).mono (fun r h c => ⟨(h c).1.trans (Cert.DiffRefIdeal.Val.val m c (h0 c) (h1 c) (h2 c) (h3 c) (h4 c) (h5 c) (h6 c)), (h c).2⟩) (Cert.DiffRefIdeal.Value.run (F := Ideal) m g)

/-- The attention's result is the plain attention's. -/
theorem algebraic_Diff : Cert.algebraic_DiffIdeal_DiffRefIdeal_pre_finite (hDiffIdeal := Cert.DiffIdeal.Gen.facts) (hDiffRefIdeal := Cert.DiffRefIdeal.Gen.facts) (hPre_finite := Cert.Pre_finite.Gen.facts) := by
  intro m g m' g' hpre hagree
  have f0 : ∀ c : Dev Cert.DiffIdeal.nD, Fine (s := Cert.DiffIdeal.S2x8192x8x2x64) (m ((c.tc : Thread Cert.DiffIdeal.nD Cert.DiffIdeal.τ).loc Cert.DiffIdeal.main_arg0)) := fun c =>
    fine_of _ _ _ (hpre c).1
  have f1 : ∀ c : Dev Cert.DiffIdeal.nD, Fine (s := Cert.DiffIdeal.S2x8192x8x2x64) (m ((c.tc : Thread Cert.DiffIdeal.nD Cert.DiffIdeal.τ).loc Cert.DiffIdeal.main_arg1)) := fun c =>
    fine_of _ _ _ (hpre c).2.1
  have f2 : ∀ c : Dev Cert.DiffIdeal.nD, Fine (s := Cert.DiffIdeal.S2x8192x8x128) (m ((c.tc : Thread Cert.DiffIdeal.nD Cert.DiffIdeal.τ).loc Cert.DiffIdeal.main_arg2)) := fun c =>
    fine_of _ _ _ (hpre c).2.2.1
  have f3 : ∀ c : Dev Cert.DiffIdeal.nD, Fine (s := Cert.DiffIdeal.S64) (m ((c.tc : Thread Cert.DiffIdeal.nD Cert.DiffIdeal.τ).loc Cert.DiffIdeal.main_arg3)) := fun c =>
    fine_of _ _ _ (hpre c).2.2.2.1
  have f4 : ∀ c : Dev Cert.DiffIdeal.nD, Fine (s := Cert.DiffIdeal.S64) (m ((c.tc : Thread Cert.DiffIdeal.nD Cert.DiffIdeal.τ).loc Cert.DiffIdeal.main_arg4)) := fun c =>
    fine_of _ _ _ (hpre c).2.2.2.2.1
  have f5 : ∀ c : Dev Cert.DiffIdeal.nD, Fine (s := Cert.DiffIdeal.S64) (m ((c.tc : Thread Cert.DiffIdeal.nD Cert.DiffIdeal.τ).loc Cert.DiffIdeal.main_arg5)) := fun c =>
    fine_of _ _ _ (hpre c).2.2.2.2.2.1
  have f6 : ∀ c : Dev Cert.DiffIdeal.nD, Fine (s := Cert.DiffIdeal.S64) (m ((c.tc : Thread Cert.DiffIdeal.nD Cert.DiffIdeal.τ).loc Cert.DiffIdeal.main_arg6)) := fun c =>
    fine_of _ _ _ (hpre c).2.2.2.2.2.2
  have e0 : ∀ c : Dev Cert.DiffIdeal.nD, Fine (s := Cert.DiffRefIdeal.S2x8192x8x2x64) (m' ((c.tc : Thread Cert.DiffRefIdeal.nD Cert.DiffRefIdeal.τ).loc Cert.DiffRefIdeal.main_arg0)) := fun c => by
    rw [(hagree c).1]
    exact f0 c
  have e1 : ∀ c : Dev Cert.DiffIdeal.nD, Fine (s := Cert.DiffRefIdeal.S2x8192x8x2x64) (m' ((c.tc : Thread Cert.DiffRefIdeal.nD Cert.DiffRefIdeal.τ).loc Cert.DiffRefIdeal.main_arg1)) := fun c => by
    rw [(hagree c).2.1]
    exact f1 c
  have e2 : ∀ c : Dev Cert.DiffIdeal.nD, Fine (s := Cert.DiffRefIdeal.S2x8192x8x128) (m' ((c.tc : Thread Cert.DiffRefIdeal.nD Cert.DiffRefIdeal.τ).loc Cert.DiffRefIdeal.main_arg2)) := fun c => by
    rw [(hagree c).2.2.1]
    exact f2 c
  have e3 : ∀ c : Dev Cert.DiffIdeal.nD, Fine (s := Cert.DiffRefIdeal.S64) (m' ((c.tc : Thread Cert.DiffRefIdeal.nD Cert.DiffRefIdeal.τ).loc Cert.DiffRefIdeal.main_arg3)) := fun c => by
    rw [(hagree c).2.2.2.1]
    exact f3 c
  have e4 : ∀ c : Dev Cert.DiffIdeal.nD, Fine (s := Cert.DiffRefIdeal.S64) (m' ((c.tc : Thread Cert.DiffRefIdeal.nD Cert.DiffRefIdeal.τ).loc Cert.DiffRefIdeal.main_arg4)) := fun c => by
    rw [(hagree c).2.2.2.2.1]
    exact f4 c
  have e5 : ∀ c : Dev Cert.DiffIdeal.nD, Fine (s := Cert.DiffRefIdeal.S64) (m' ((c.tc : Thread Cert.DiffRefIdeal.nD Cert.DiffRefIdeal.τ).loc Cert.DiffRefIdeal.main_arg5)) := fun c => by
    rw [(hagree c).2.2.2.2.2.1]
    exact f5 c
  have e6 : ∀ c : Dev Cert.DiffIdeal.nD, Fine (s := Cert.DiffRefIdeal.S64) (m' ((c.tc : Thread Cert.DiffRefIdeal.nD Cert.DiffRefIdeal.τ).loc Cert.DiffRefIdeal.main_arg6)) := fun c => by
    rw [(hagree c).2.2.2.2.2.2.1]
    exact f6 c
  refine ⟨fun c => G (m ((c.tc : Thread Cert.DiffIdeal.nD Cert.DiffIdeal.τ).loc Cert.DiffIdeal.main_arg0)) (m ((c.tc : Thread Cert.DiffIdeal.nD Cert.DiffIdeal.τ).loc Cert.DiffIdeal.main_arg1)) (m ((c.tc : Thread Cert.DiffIdeal.nD Cert.DiffIdeal.τ).loc Cert.DiffIdeal.main_arg2)) (m ((c.tc : Thread Cert.DiffIdeal.nD Cert.DiffIdeal.τ).loc Cert.DiffIdeal.main_arg3)) (m ((c.tc : Thread Cert.DiffIdeal.nD Cert.DiffIdeal.τ).loc Cert.DiffIdeal.main_arg4)) (m ((c.tc : Thread Cert.DiffIdeal.nD Cert.DiffIdeal.τ).loc Cert.DiffIdeal.main_arg5)) (m ((c.tc : Thread Cert.DiffIdeal.nD Cert.DiffIdeal.τ).loc Cert.DiffIdeal.main_arg6)) (m ((c.tc : Thread Cert.DiffIdeal.nD Cert.DiffIdeal.τ).loc Cert.DiffIdeal.main_arg7)), ?_, ?_⟩
  · exact (θ_run _ _ _).mono (fun r h c => h c) (run_k m g f0 f1 f2)
  · refine (θ_run _ _ _).mono (fun r h c => ?_) (run_r m' g' e0 e1 e2 e3 e4 e5 e6)
    obtain ⟨a0, a1, a2, a3, a4, a5, a6, a7⟩ := hagree c
    refine ⟨(h c).1.trans ?_, (h c).2⟩
    rw [a0, a1, a2, a3, a4, a5, a6, a7]

/-- The plain reference runs and keeps its arguments. -/
theorem frame_DiffRef : Cert.quiescent_DiffRefIdeal (hDiffRefIdeal := Cert.DiffRefIdeal.Gen.facts) := by
  intro m g _
  refine (θ_run _ _ _).mono (fun r h => ⟨fun c => ?_, sem_eq_zero_of_no_sems (by decide) r.2⟩) (Cert.DiffRefIdeal.Value.run (F := Ideal) m g)
  exact (h c).2

/-- It does so from finite arguments too. -/
theorem frame_DiffRef_fin : Cert.quiescent_DiffRefIdeal_pre_finite (hDiffRefIdeal := Cert.DiffRefIdeal.Gen.facts) (hPre_finite := Cert.Pre_finite.Gen.facts) := by
  intro m g _
  exact frame_DiffRef m g trivial

end Cert.Proof.Diff
end
-- ==== Proof.InSpec.lean ====
module
public import proofs.«01_k».proof.InProjIdeal
public import Idealize.ShloMosaic.Lib.Pointwise

@[expose] public section

set_option maxRecDepth 16384

noncomputable section

namespace Cert.InSpec

open Idealize.ShloMosaic Cert.InProjIdeal
open scoped BigOperators

/-- Row `r` of the normalised input at feature `k`: the input times the reciprocal root of its row's mean square
    (plus the small constant), times the norm's weight. -/
def xn (X : FVec Ideal S2x8192x1024 .f32) (W : FVec Ideal S1x1024 .f32) (r : Fin 16384) (k : Fin 1024) : EReal :=
  X (ix3 (⟨r.val / 8192, by omega⟩ : Fin 2) (⟨r.val % 8192, by omega⟩ : Fin 8192) k)
    * Ideal.rsqrt (Ideal.div (∑ l : Fin 1024, X (ix3 (⟨r.val / 8192, by omega⟩ : Fin 2) (⟨r.val % 8192, by omega⟩ : Fin 8192) l)
        * X (ix3 (⟨r.val / 8192, by omega⟩ : Fin 2) (⟨r.val % 8192, by omega⟩ : Fin 8192) l)) (Ideal.ofBits .f32 0x44800000#32)
        + Ideal.ofBits .f32 0x358637BD#32)
    * W (ix2 (0 : Fin 1) k)

/-- The projection: row `r` of the normalised input against column `j` of the weight. -/
def pr (X : FVec Ideal S2x8192x1024 .f32) (W : FVec Ideal S1x1024 .f32) (Wi : FVec Ideal S1x1024x6656 .f32)
    (r : Fin 16384) (j : Fin 6656) : EReal :=
  ∑ k : Fin 1024, xn X W r k * Wi (ix3 (0 : Fin 1) k j)

/-- The scaled queries of the dense mixer. -/
def G4 (X : FVec Ideal S2x8192x1024 .f32) (W : FVec Ideal S1x1024 .f32) (Wi : FVec Ideal S1x1024x6656 .f32) :
    FVec Ideal S16384x1024 .bf16 :=
  fun i => pr X W Wi (i 0) ⟨(i 1).val, by have : (i 1).val < 1024 := (i 1).isLt; omega⟩ * Ideal.ofBits .f32 0x3E000000#32

/-- The keys of the dense mixer. -/
def G5 (X : FVec Ideal S2x8192x1024 .f32) (W : FVec Ideal S1x1024 .f32) (Wi : FVec Ideal S1x1024x6656 .f32) :
    FVec Ideal S16384x1024 .bf16 :=
  fun i => pr X W Wi (i 0) ⟨1024 + (i 1).val, by have : (i 1).val < 1024 := (i 1).isLt; omega⟩

/-- The values of the dense mixer, as tiles of 512 rows, each transposed. -/
def G6 (X : FVec Ideal S2x8192x1024 .f32) (W : FVec Ideal S1x1024 .f32) (Wi : FVec Ideal S1x1024x6656 .f32) :
    FVec Ideal S32x1024x512 .bf16 :=
  fun i => pr X W Wi ⟨(i 0).val * 512 + (i 2).val, by have : (i 0).val < 32 := (i 0).isLt; have : (i 2).val < 512 := (i 2).isLt; omega⟩ ⟨2048 + (i 1).val, by have : (i 1).val < 1024 := (i 1).isLt; omega⟩

/-- The scaled queries of the chunked mixer. -/
def G7 (X : FVec Ideal S2x8192x1024 .f32) (W : FVec Ideal S1x1024 .f32) (Wi : FVec Ideal S1x1024x6656 .f32) :
    FVec Ideal S16384x512 .bf16 :=
  fun i => pr X W Wi (i 0) ⟨3072 + (i 1).val, by have : (i 1).val < 512 := (i 1).isLt; omega⟩ * Ideal.ofBits .f32 0x3E000000#32

/-- The keys of the chunked mixer. -/
def G8 (X : FVec Ideal S2x8192x1024 .f32) (W : FVec Ideal S1x1024 .f32) (Wi : FVec Ideal S1x1024x6656 .f32) :
    FVec Ideal S16384x512 .bf16 :=
  fun i => pr X W Wi (i 0) ⟨3584 + (i 1).val, by have : (i 1).val < 512 := (i 1).isLt; omega⟩

/-- The values of the chunked mixer. -/
def G9 (X : FVec Ideal S2x8192x1024 .f32) (W : FVec Ideal S1x1024 .f32) (Wi : FVec Ideal S1x1024x6656 .f32) :
    FVec Ideal S16384x512 .bf16 :=
  fun i => pr X W Wi (i 0) ⟨4096 + (i 1).val, by have : (i 1).val < 512 := (i 1).isLt; omega⟩

/-- The gates. -/
def G10 (X : FVec Ideal S2x8192x1024 .f32) (W : FVec Ideal S1x1024 .f32) (Wi : FVec Ideal S1x1024x6656 .f32) :
    FVec Ideal S16384x2048 .f32 :=
  fun i => pr X W Wi (i 0) ⟨4608 + (i 1).val, by have : (i 1).val < 2048 := (i 1).isLt; omega⟩

end Cert.InSpec
end
-- ==== Proof.InVal.lean ====
module
public import proofs.«01_k».proof.Proof.InSpec
public import proofs.«01_k».proof.Proof.Gen.InProjIdeal.Value
public import Idealize.ShloMosaic.Lib.Pipeline.ValueKit
public import Idealize.ShloMosaic.Lib.Pointwise
public import Idealize.ShloMosaic.Lib.Claim

@[expose] public section

set_option maxRecDepth 16384

noncomputable section

namespace Cert.InProjIdeal.Val

open Cert.InProjIdeal Cert.InProjIdeal.Gen Idealize.ShloMosaic Idealize.ShloMosaic.TcCoe Idealize.SL.Sem
open Idealize.ShloMosaic.Pipeline (Dat)
open Cert.InSpec
open scoped BigOperators

variable (m : (ℓ : Loc nD τ sig) → Buf (Elt Ideal) ℓ)

theorem idx : ∀ t : Fin cfg0.N, win0_0.index t = ![t.val, 0] ∧ win0_1.index t = ![0, 0] ∧ win0_2.index t = ![0, 0]
    ∧ win0_3.index t = ![0, 0] ∧ win0_4.index t = ![t.val, 0] ∧ win0_5.index t = ![t.val, 0] ∧ win0_6.index t = ![t.val, 0, 0]
    ∧ win0_7.index t = ![t.val, 0] ∧ win0_8.index t = ![t.val, 0] ∧ win0_9.index t = ![t.val, 0] ∧ win0_10.index t = ![t.val, 0] :=
  (by decide +kernel : ∀ t : Fin grid0.N, _)

/-- Row `r` of a block's normalised input at feature `k`. -/
def xb (x0 : FVec Ideal S512x1024 .f32) (x1 : FVec Ideal S1x1024 .f32) (r : Fin 512) (k : Fin 1024) : EReal :=
  x0 (ix2 r k) * Ideal.rsqrt (Ideal.div (∑ l : Fin 1024, x0 (ix2 r l) * x0 (ix2 r l)) (Ideal.ofBits .f32 0x44800000#32)
    + Ideal.ofBits .f32 0x358637BD#32) * x1 (ix2 (0 : Fin 1) k)

theorem xn_at (x0 : FVec Ideal S512x1024 .f32) (x1 : FVec Ideal S1x1024 .f32) (r : Fin 512) (k : Fin 1024) :
    k0_pay5 (F := Ideal) x0 x1 (ix2 r k) = xb x0 x1 r k := by
  pointwise [k0_pay5, xb]

variable (x0 : FVec Ideal S512x1024 .f32) (x1 : FVec Ideal S1x1024 .f32) (x2 : FVec Ideal S1024x6656 .bf16)
  (x3 : FVec Ideal S1024x1024 .bf16)

theorem pay9_at (r : Fin 512) (k : Fin 1024) : k0_pay9 (F := Ideal) x0 x1 x2 x3 (ix2 r k) = xb x0 x1 r k := by
  pointwise [k0_pay9, k0_pay5, xb]
theorem out4 (r : Fin 512) (j : Fin 1024) : out0_4 (F := Ideal) x0 x1 x2 x3 (ix2 r j)
    = (∑ k : Fin 1024, xb x0 x1 r k * x2 (ix2 k (⟨j.val, by omega⟩ : Fin 6656))) * Ideal.ofBits .f32 0x3E000000#32 := by
  frame_out
  pointwise [k0_pay6, xn_at]
theorem out5 (r : Fin 512) (j : Fin 1024) : out0_5 (F := Ideal) x0 x1 x2 x3 (ix2 r j)
    = ∑ k : Fin 1024, xb x0 x1 r k * x2 (ix2 k (⟨1024 + j.val, by omega⟩ : Fin 6656)) := by
  frame_out
  pointwise [k0_pay7, xn_at]
theorem out6 (z : Fin 1) (j : Fin 1024) (r : Fin 512) : out0_6 (F := Ideal) x0 x1 x2 x3 (ix3 z j r)
    = ∑ k : Fin 1024, xb x0 x1 r k * x3 (ix2 j k) := by
  frame_out
  pointwise [k0_pay4, pay9_at]
  exact Finset.sum_congr rfl fun k _ => mul_comm _ _
theorem out7 (r : Fin 512) (j : Fin 512) : out0_7 (F := Ideal) x0 x1 x2 x3 (ix2 r j)
    = (∑ k : Fin 1024, xb x0 x1 r k * x2 (ix2 k (⟨3072 + j.val, by omega⟩ : Fin 6656))) * Ideal.ofBits .f32 0x3E000000#32 := by
  frame_out
  pointwise [k0_pay8, xn_at]
theorem out8 (r : Fin 512) (j : Fin 512) : out0_8 (F := Ideal) x0 x1 x2 x3 (ix2 r j)
    = ∑ k : Fin 1024, xb x0 x1 r k * x2 (ix2 k (⟨3584 + j.val, by omega⟩ : Fin 6656)) := by
  frame_out
  pointwise [k0_pay1, pay9_at]
theorem out9 (r : Fin 512) (j : Fin 512) : out0_9 (F := Ideal) x0 x1 x2 x3 (ix2 r j)
    = ∑ k : Fin 1024, xb x0 x1 r k * x2 (ix2 k (⟨4096 + j.val, by omega⟩ : Fin 6656)) := by
  frame_out
  pointwise [k0_pay2, pay9_at]
theorem out10 (r : Fin 512) (j : Fin 2048) : out0_10 (F := Ideal) x0 x1 x2 x3 (ix2 r j)
    = ∑ k : Fin 1024, xb x0 x1 r k * x2 (ix2 k (⟨4608 + j.val, by omega⟩ : Fin 6656)) := by
  frame_out
  pointwise [k0_pay3, pay9_at]

/-! ## The blocks the windows read -/

theorem tlt (t : Fin cfg0.N) : t.val < 32 := t.isLt

theorem blk0 (c : Dev nD) (t : Fin cfg0.N) (r : Fin 512) (k : Fin 1024) : iblk m c 0 t (ix2 r k)
    = m ((c : Thread nD τ).loc main_arg0) (ix3 (⟨(t.val * 512 + r.val) / 8192, by have := tlt t; omega⟩ : Fin 2)
        (⟨(t.val * 512 + r.val) % 8192, by omega⟩ : Fin 8192) k) := by
  blk_point [iblk, idx t]
theorem blk1 (c : Dev nD) (t : Fin cfg0.N) (r : Fin 1) (k : Fin 1024) : iblk m c 1 t (ix2 r k)
    = m ((c : Thread nD τ).loc main_arg1) (ix2 (0 : Fin 1) k) := by
  blk_point [iblk, idx t]
theorem blk2 (c : Dev nD) (t : Fin cfg0.N) (k : Fin 1024) (j : Fin 6656) : iblk m c 2 t (ix2 k j)
    = m ((c : Thread nD τ).loc main_arg2) (ix3 (0 : Fin 1) k j) := by
  blk_point [iblk, idx t]
theorem blk3 (c : Dev nD) (t : Fin cfg0.N) (j : Fin 1024) (k : Fin 1024) : iblk m c 3 t (ix2 j k)
    = m ((c : Thread nD τ).loc main_arg2) (ix3 (0 : Fin 1) k (⟨2048 + j.val, by omega⟩ : Fin 6656)) := by
  blk_point [iblk, idx t]

/-- A block's normalised rows are the array's. -/
theorem xb_eq (c : Dev nD) (t : Fin cfg0.N) (r : Fin 512) (k : Fin 1024) : xb (iblk m c 0 t) (iblk m c 1 t) r k
    = xn (m ((c : Thread nD τ).loc main_arg0)) (m ((c : Thread nD τ).loc main_arg1)) ⟨t.val * 512 + r.val, by have := tlt t; omega⟩ k := by
  unfold xb xn
  simp only [blk0 m c t, blk1 m c t]

/-- The scaled queries of the dense mixer: the call's result array. -/
theorem final4 (c : Dev nD) : (dats m 0 c).arrAt 4 (cfgs 0).N
    = G4 (m ((c : Thread nD τ).loc main_arg0)) (m ((c : Thread nD τ).loc main_arg1)) (m ((c : Thread nD τ).loc main_arg2)) := by
  refine (dats m 0 c).arrAt_eq_of_covers 4 _ (by decide +kernel) fun t _ y => ?_
  blk_simp
  rw [after0_4]
  have he : ((View.whole main_v7_0).slice (win0_4.rect t)).emb y = ix2 (⟨t.val * 512 + (y 0).val, by have := tlt t; have : (y 0).val < 512 := (y 0).isLt; omega⟩ : Fin 16384) (y 1 : Fin 1024) := by
    blk_ext [idx t]
  rw [he]
  refine (congrArg _ (eq_ix2 y)).trans ((out4 _ _ _ _ (y 0) (y 1)).trans ?_)
  exact congrArg (· * Ideal.ofBits .f32 0x3E000000#32) (Finset.sum_congr rfl fun k _ => congrArg₂ (· * ·) (xb_eq m c t _ k) (blk2 m c t k _))

/-- The keys of the dense mixer: the call's result array. -/
theorem final5 (c : Dev nD) : (dats m 0 c).arrAt 5 (cfgs 0).N
    = G5 (m ((c : Thread nD τ).loc main_arg0)) (m ((c : Thread nD τ).loc main_arg1)) (m ((c : Thread nD τ).loc main_arg2)) := by
  refine (dats m 0 c).arrAt_eq_of_covers 5 _ (by decide +kernel) fun t _ y => ?_
  blk_simp
  rw [after0_5]
  have he : ((View.whole main_v7_1).slice (win0_5.rect t)).emb y = ix2 (⟨t.val * 512 + (y 0).val, by have := tlt t; have : (y 0).val < 512 := (y 0).isLt; omega⟩ : Fin 16384) (y 1 : Fin 1024) := by
    blk_ext [idx t]
  rw [he]
  refine (congrArg _ (eq_ix2 y)).trans ((out5 _ _ _ _ (y 0) (y 1)).trans ?_)
  exact Finset.sum_congr rfl fun k _ => congrArg₂ (· * ·) (xb_eq m c t _ k) (blk2 m c t k _)

/-- The values of the dense mixer: the call's result array. -/
theorem final6 (c : Dev nD) : (dats m 0 c).arrAt 6 (cfgs 0).N
    = G6 (m ((c : Thread nD τ).loc main_arg0)) (m ((c : Thread nD τ).loc main_arg1)) (m ((c : Thread nD τ).loc main_arg2)) := by
  refine (dats m 0 c).arrAt_eq_of_covers 6 _ (by decide +kernel) fun t _ y => ?_
  blk_simp
  rw [after0_6]
  have he : ((View.whole main_v7_2).slice (win0_6.rect t)).emb y = ix3 (⟨t.val, tlt t⟩ : Fin 32) (y 1 : Fin 1024) (y 2 : Fin 512) := by
    blk_ext [idx t]
  rw [he]
  refine (congrArg _ (eq_ix3 y)).trans ((out6 _ _ _ _ (y 0) (y 1) (y 2)).trans ?_)
  exact Finset.sum_congr rfl fun k _ => congrArg₂ (· * ·) (xb_eq m c t _ k) (blk3 m c t _ k)

/-- The scaled queries of the chunked mixer: the call's result array. -/
theorem final7 (c : Dev nD) : (dats m 0 c).arrAt 7 (cfgs 0).N
    = G7 (m ((c : Thread nD τ).loc main_arg0)) (m ((c : Thread nD τ).loc main_arg1)) (m ((c : Thread nD τ).loc main_arg2)) := by
  refine (dats m 0 c).arrAt_eq_of_covers 7 _ (by decide +kernel) fun t _ y => ?_
  blk_simp
  rw [after0_7]
  have he : ((View.whole main_v7_3).slice (win0_7.rect t)).emb y = ix2 (⟨t.val * 512 + (y 0).val, by have := tlt t; have : (y 0).val < 512 := (y 0).isLt; omega⟩ : Fin 16384) (y 1 : Fin 512) := by
    blk_ext [idx t]
  rw [he]
  refine (congrArg _ (eq_ix2 y)).trans ((out7 _ _ _ _ (y 0) (y 1)).trans ?_)
  exact congrArg (· * Ideal.ofBits .f32 0x3E000000#32) (Finset.sum_congr rfl fun k _ => congrArg₂ (· * ·) (xb_eq m c t _ k) (blk2 m c t k _))

/-- The keys of the chunked mixer: the call's result array. -/
theorem final8 (c : Dev nD) : (dats m 0 c).arrAt 8 (cfgs 0).N
    = G8 (m ((c : Thread nD τ).loc main_arg0)) (m ((c : Thread nD τ).loc main_arg1)) (m ((c : Thread nD τ).loc main_arg2)) := by
  refine (dats m 0 c).arrAt_eq_of_covers 8 _ (by decide +kernel) fun t _ y => ?_
  blk_simp
  rw [after0_8]
  have he : ((View.whole main_v7_4).slice (win0_8.rect t)).emb y = ix2 (⟨t.val * 512 + (y 0).val, by have := tlt t; have : (y 0).val < 512 := (y 0).isLt; omega⟩ : Fin 16384) (y 1 : Fin 512) := by
    blk_ext [idx t]
  rw [he]
  refine (congrArg _ (eq_ix2 y)).trans ((out8 _ _ _ _ (y 0) (y 1)).trans ?_)
  exact Finset.sum_congr rfl fun k _ => congrArg₂ (· * ·) (xb_eq m c t _ k) (blk2 m c t k _)

/-- The values of the chunked mixer: the call's result array. -/
theorem final9 (c : Dev nD) : (dats m 0 c).arrAt 9 (cfgs 0).N
    = G9 (m ((c : Thread nD τ).loc main_arg0)) (m ((c : Thread nD τ).loc main_arg1)) (m ((c : Thread nD τ).loc main_arg2)) := by
  refine (dats m 0 c).arrAt_eq_of_covers 9 _ (by decide +kernel) fun t _ y => ?_
  blk_simp
  rw [after0_9]
  have he : ((View.whole main_v7_5).slice (win0_9.rect t)).emb y = ix2 (⟨t.val * 512 + (y 0).val, by have := tlt t; have : (y 0).val < 512 := (y 0).isLt; omega⟩ : Fin 16384) (y 1 : Fin 512) := by
    blk_ext [idx t]
  rw [he]
  refine (congrArg _ (eq_ix2 y)).trans ((out9 _ _ _ _ (y 0) (y 1)).trans ?_)
  exact Finset.sum_congr rfl fun k _ => congrArg₂ (· * ·) (xb_eq m c t _ k) (blk2 m c t k _)

/-- The gates: the call's result array. -/
theorem final10 (c : Dev nD) : (dats m 0 c).arrAt 10 (cfgs 0).N
    = G10 (m ((c : Thread nD τ).loc main_arg0)) (m ((c : Thread nD τ).loc main_arg1)) (m ((c : Thread nD τ).loc main_arg2)) := by
  refine (dats m 0 c).arrAt_eq_of_covers 10 _ (by decide +kernel) fun t _ y => ?_
  blk_simp
  rw [after0_10]
  have he : ((View.whole main_v7_6).slice (win0_10.rect t)).emb y = ix2 (⟨t.val * 512 + (y 0).val, by have := tlt t; have : (y 0).val < 512 := (y 0).isLt; omega⟩ : Fin 16384) (y 1 : Fin 2048) := by
    blk_ext [idx t]
  rw [he]
  refine (congrArg _ (eq_ix2 y)).trans ((out10 _ _ _ _ (y 0) (y 1)).trans ?_)
  exact Finset.sum_congr rfl fun k _ => congrArg₂ (· * ·) (xb_eq m c t _ k) (blk2 m c t k _)

end Cert.InProjIdeal.Val
end
-- ==== Proof.InRef.lean ====
module
public import proofs.«01_k».proof.Proof.InSpec
public import proofs.«01_k».proof.Proof.Gen.InRefIdeal.Run
public import Idealize.ShloMosaic.Lib.Claim

@[expose] public section

set_option maxRecDepth 16384

noncomputable section

namespace Cert.InRefIdeal.Val

open Cert.InRefIdeal Idealize.ShloMosaic Idealize.ShloMosaic.TcCoe Idealize.SL.Sem
open Cert.InSpec
open scoped BigOperators

variable (m : (ℓ : Loc nD τ sig) → Buf (Elt Ideal) ℓ)

/-- Row `i2` of tile `i0`, in its batch entry. -/
theorem div8 (i0 : Fin 32) (i2 : Fin 512) : (i0.val * 512 + i2.val) / 8192 = i0.val / 16 := by omega
/-- Row `i2` of tile `i0`, its position. -/
theorem mod8 (i0 : Fin 32) (i2 : Fin 512) : (i0.val * 512 + i2.val) % 8192 = i0.val % 16 * 512 + i2.val := by omega

set_option maxHeartbeats 1600000 in
/-- The plain projection's run: every result is the array the specification names. -/
theorem run (g : Dev nD → PrngReg) : θ_run (defs (F := Ideal)) (onTc (τ := τ) (main (F := Ideal))) ⟨m, fun _ => 0, g⟩ fun r => ∀ c : Dev nD,
    r.2.mem ((c.tc : Thread nD τ).loc main_v26) = G4 (m ((c.tc : Thread nD τ).loc main_arg0)) (m ((c.tc : Thread nD τ).loc main_arg1)) (m ((c.tc : Thread nD τ).loc main_arg2))
    ∧ r.2.mem ((c.tc : Thread nD τ).loc main_v28) = G5 (m ((c.tc : Thread nD τ).loc main_arg0)) (m ((c.tc : Thread nD τ).loc main_arg1)) (m ((c.tc : Thread nD τ).loc main_arg2))
    ∧ r.2.mem ((c.tc : Thread nD τ).loc main_v31) = G6 (m ((c.tc : Thread nD τ).loc main_arg0)) (m ((c.tc : Thread nD τ).loc main_arg1)) (m ((c.tc : Thread nD τ).loc main_arg2))
    ∧ r.2.mem ((c.tc : Thread nD τ).loc main_v35) = G7 (m ((c.tc : Thread nD τ).loc main_arg0)) (m ((c.tc : Thread nD τ).loc main_arg1)) (m ((c.tc : Thread nD τ).loc main_arg2))
    ∧ r.2.mem ((c.tc : Thread nD τ).loc main_v37) = G8 (m ((c.tc : Thread nD τ).loc main_arg0)) (m ((c.tc : Thread nD τ).loc main_arg1)) (m ((c.tc : Thread nD τ).loc main_arg2))
    ∧ r.2.mem ((c.tc : Thread nD τ).loc main_v39) = G9 (m ((c.tc : Thread nD τ).loc main_arg0)) (m ((c.tc : Thread nD τ).loc main_arg1)) (m ((c.tc : Thread nD τ).loc main_arg2))
    ∧ r.2.mem ((c.tc : Thread nD τ).loc main_v40) = G10 (m ((c.tc : Thread nD τ).loc main_arg0)) (m ((c.tc : Thread nD τ).loc main_arg1)) (m ((c.tc : Thread nD τ).loc main_arg2))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2) := by
  hlo_run
  all_goals (funext i; idx_vars i)
  · pointwise [G4, pr, xn]
  · pointwise [G5, pr, xn]
  · pointwise [G6, pr, xn]
    simp only [div8 i0 i2, mod8 i0 i2]
  · pointwise [G7, pr, xn]
  · pointwise [G8, pr, xn]
  · pointwise [G9, pr, xn]
  · pointwise [G10, pr, xn]

end Cert.InRefIdeal.Val
end
-- ==== Proof.InAlg.lean ====
module
public import proofs.«01_k».proof.Defs
public import proofs.«01_k».proof.Proof.Gen.InProjIdeal.Value
public import proofs.«01_k».proof.Proof.Gen.InRefIdeal.Run
public import proofs.«01_k».proof.Proof.InVal
public import proofs.«01_k».proof.Proof.InRef
public import Idealize.ShloMosaic.Lib.Claim
public import Idealize.ShloMosaic.Lib.Quiescent

@[expose] public section

set_option maxRecDepth 16384

noncomputable section

namespace Cert.InProjIdeal.Val

open Cert.InProjIdeal Cert.InSpec Idealize.ShloMosaic Idealize.ShloMosaic.TcCoe Idealize.SL.Sem

set_option maxHeartbeats 2000000 in
/-- The kernel's run: every result is the array the specification names. -/
theorem run (m : (ℓ : Loc nD τ sig) → Buf (Elt Ideal) ℓ) (g : Dev nD → PrngReg) : θ_run (defs (F := Ideal)) (onTc (τ := τ) (main (F := Ideal))) ⟨m, fun _ => 0, g⟩ fun r => ∀ c : Dev nD,
    r.2.mem ((c.tc : Thread nD τ).loc main_v7_0) = G4 (m ((c.tc : Thread nD τ).loc main_arg0)) (m ((c.tc : Thread nD τ).loc main_arg1)) (m ((c.tc : Thread nD τ).loc main_arg2))
    ∧ r.2.mem ((c.tc : Thread nD τ).loc main_v7_1) = G5 (m ((c.tc : Thread nD τ).loc main_arg0)) (m ((c.tc : Thread nD τ).loc main_arg1)) (m ((c.tc : Thread nD τ).loc main_arg2))
    ∧ r.2.mem ((c.tc : Thread nD τ).loc main_v7_2) = G6 (m ((c.tc : Thread nD τ).loc main_arg0)) (m ((c.tc : Thread nD τ).loc main_arg1)) (m ((c.tc : Thread nD τ).loc main_arg2))
    ∧ r.2.mem ((c.tc : Thread nD τ).loc main_v7_3) = G7 (m ((c.tc : Thread nD τ).loc main_arg0)) (m ((c.tc : Thread nD τ).loc main_arg1)) (m ((c.tc : Thread nD τ).loc main_arg2))
    ∧ r.2.mem ((c.tc : Thread nD τ).loc main_v7_4) = G8 (m ((c.tc : Thread nD τ).loc main_arg0)) (m ((c.tc : Thread nD τ).loc main_arg1)) (m ((c.tc : Thread nD τ).loc main_arg2))
    ∧ r.2.mem ((c.tc : Thread nD τ).loc main_v7_5) = G9 (m ((c.tc : Thread nD τ).loc main_arg0)) (m ((c.tc : Thread nD τ).loc main_arg1)) (m ((c.tc : Thread nD τ).loc main_arg2))
    ∧ r.2.mem ((c.tc : Thread nD τ).loc main_v7_6) = G10 (m ((c.tc : Thread nD τ).loc main_arg0)) (m ((c.tc : Thread nD τ).loc main_arg1)) (m ((c.tc : Thread nD τ).loc main_arg2))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2) := by
  run_from Cert.InProjIdeal.Gen.run_main m g
  · exact Cert.InProjIdeal.Val.final4 m c
  · exact Cert.InProjIdeal.Val.final5 m c
  · exact Cert.InProjIdeal.Val.final6 m c
  · exact Cert.InProjIdeal.Val.final7 m c
  · exact Cert.InProjIdeal.Val.final8 m c
  · exact Cert.InProjIdeal.Val.final9 m c
  · exact Cert.InProjIdeal.Val.final10 m c

end Cert.InProjIdeal.Val

namespace Cert.Proof

open Cert.InSpec Idealize.ShloMosaic Idealize.ShloMosaic.TcCoe Idealize.SL.Sem

/-- The input projection's results are the plain projection's. -/
theorem algebraic_InProj : Cert.algebraic_InProjIdeal_InRefIdeal := by
  intro m g m' g' _ hagree
  refine ⟨fun c => G4 (m ((c.tc : Thread Cert.InProjIdeal.nD Cert.InProjIdeal.τ).loc Cert.InProjIdeal.main_arg0)) (m ((c.tc : Thread Cert.InProjIdeal.nD Cert.InProjIdeal.τ).loc Cert.InProjIdeal.main_arg1)) (m ((c.tc : Thread Cert.InProjIdeal.nD Cert.InProjIdeal.τ).loc Cert.InProjIdeal.main_arg2)), fun c => G5 (m ((c.tc : Thread Cert.InProjIdeal.nD Cert.InProjIdeal.τ).loc Cert.InProjIdeal.main_arg0)) (m ((c.tc : Thread Cert.InProjIdeal.nD Cert.InProjIdeal.τ).loc Cert.InProjIdeal.main_arg1)) (m ((c.tc : Thread Cert.InProjIdeal.nD Cert.InProjIdeal.τ).loc Cert.InProjIdeal.main_arg2)), fun c => G6 (m ((c.tc : Thread Cert.InProjIdeal.nD Cert.InProjIdeal.τ).loc Cert.InProjIdeal.main_arg0)) (m ((c.tc : Thread Cert.InProjIdeal.nD Cert.InProjIdeal.τ).loc Cert.InProjIdeal.main_arg1)) (m ((c.tc : Thread Cert.InProjIdeal.nD Cert.InProjIdeal.τ).loc Cert.InProjIdeal.main_arg2)), fun c => G7 (m ((c.tc : Thread Cert.InProjIdeal.nD Cert.InProjIdeal.τ).loc Cert.InProjIdeal.main_arg0)) (m ((c.tc : Thread Cert.InProjIdeal.nD Cert.InProjIdeal.τ).loc Cert.InProjIdeal.main_arg1)) (m ((c.tc : Thread Cert.InProjIdeal.nD Cert.InProjIdeal.τ).loc Cert.InProjIdeal.main_arg2)), fun c => G8 (m ((c.tc : Thread Cert.InProjIdeal.nD Cert.InProjIdeal.τ).loc Cert.InProjIdeal.main_arg0)) (m ((c.tc : Thread Cert.InProjIdeal.nD Cert.InProjIdeal.τ).loc Cert.InProjIdeal.main_arg1)) (m ((c.tc : Thread Cert.InProjIdeal.nD Cert.InProjIdeal.τ).loc Cert.InProjIdeal.main_arg2)), fun c => G9 (m ((c.tc : Thread Cert.InProjIdeal.nD Cert.InProjIdeal.τ).loc Cert.InProjIdeal.main_arg0)) (m ((c.tc : Thread Cert.InProjIdeal.nD Cert.InProjIdeal.τ).loc Cert.InProjIdeal.main_arg1)) (m ((c.tc : Thread Cert.InProjIdeal.nD Cert.InProjIdeal.τ).loc Cert.InProjIdeal.main_arg2)), fun c => G10 (m ((c.tc : Thread Cert.InProjIdeal.nD Cert.InProjIdeal.τ).loc Cert.InProjIdeal.main_arg0)) (m ((c.tc : Thread Cert.InProjIdeal.nD Cert.InProjIdeal.τ).loc Cert.InProjIdeal.main_arg1)) (m ((c.tc : Thread Cert.InProjIdeal.nD Cert.InProjIdeal.τ).loc Cert.InProjIdeal.main_arg2)), ?_, ?_⟩
  · exact (θ_run _ _ _).mono (fun r h c => h c) (Cert.InProjIdeal.Val.run m g)
  · refine (θ_run _ _ _).mono (fun r h c => ?_) (Cert.InRefIdeal.Val.run m' g')
    obtain ⟨h0, h1, h2⟩ := hagree c
    have hc := h c
    simp only [h0, h1, h2] at hc ⊢
    exact hc

/-- The plain reference runs and keeps its arguments. -/
theorem frame_InRefIdeal : Cert.quiescent_InRefIdeal := by
  intro m g _
  refine (θ_run _ _ _).mono (fun r h => ⟨fun c => ?_, sem_eq_zero_of_no_sems (by decide) r.2⟩) (Cert.InRefIdeal.Val.run m g)
  exact (h c).2.2.2.2.2.2.2

end Cert.Proof
end
-- ==== Proof.MergeSpec.lean ====
module
public import proofs.«01_k».proof.MergeIdeal
public import Idealize.ShloMosaic.Lib.Pointwise

@[expose] public section

set_option maxRecDepth 16384

noncomputable section

namespace Cert.MergeSpec

open Idealize.ShloMosaic Cert.MergeIdeal
open scoped BigOperators

/-- The gate's squashing function, one over one plus the exponential of the negated argument. -/
def sg (x : EReal) : EReal := Ideal.div 1 (1 + Ideal.exp (-x))

variable (OD : FVec Ideal S2x8192x1024 .f32) (OC : FVec Ideal S2x8192x512 .f32) (G : FVec Ideal S2x8192x2048 .f32)
  (X : FVec Ideal S2x8192x1024 .f32) (B : FVec Ideal S1x2048 .f32) (Wd : FVec Ideal S1x1024x1024 .f32)
  (Wc : FVec Ideal S1x512x1024 .f32) (Wo : FVec Ideal S1x1024x1024 .f32) (N2 : FVec Ideal S1x1024 .f32)
  (Wq : FVec Ideal S1x1024x1024 .f32)

/-- The gated sum of the two mixers' projections at batch entry `b`, position `p` and feature `k`. -/
def mg (b : Fin 2) (p : Fin 8192) (k : Fin 1024) : EReal :=
  sg (G (ix3 b p (⟨k.val, by omega⟩ : Fin 2048)) + B (ix2 (0 : Fin 1) (⟨k.val, by omega⟩ : Fin 2048)))
      * (∑ l : Fin 1024, OD (ix3 b p l) * Wd (ix3 (0 : Fin 1) l k))
    + sg (G (ix3 b p (⟨1024 + k.val, by omega⟩ : Fin 2048)) + B (ix2 (0 : Fin 1) (⟨1024 + k.val, by omega⟩ : Fin 2048)))
      * (∑ l : Fin 512, OC (ix3 b p l) * Wc (ix3 (0 : Fin 1) l k))

/-- The residual stream after the mixers. -/
def hh (b : Fin 2) (p : Fin 8192) (k : Fin 1024) : EReal :=
  X (ix3 b p k) + ∑ l : Fin 1024, mg OD OC G B Wd Wc b p l * Wo (ix3 (0 : Fin 1) l k)

/-- Its normalised form: times the reciprocal root of its row's mean square (plus the small constant), times the
    norm's weight. -/
def hn (b : Fin 2) (p : Fin 8192) (k : Fin 1024) : EReal :=
  hh OD OC G X B Wd Wc Wo b p k
    * Ideal.rsqrt (Ideal.div (∑ l : Fin 1024, hh OD OC G X B Wd Wc Wo b p l * hh OD OC G X B Wd Wc Wo b p l)
        (Ideal.ofBits .f32 0x44800000#32) + Ideal.ofBits .f32 0x358637BD#32)
    * N2 (ix2 (0 : Fin 1) k)

/-- The batch entry of row `r`. -/
def rb (r : Fin 16384) : Fin 2 := ⟨r.val / 8192, by omega⟩
/-- The position of row `r`. -/
def rp (r : Fin 16384) : Fin 8192 := ⟨r.val % 8192, by omega⟩

/-- The residual stream, as rows. -/
def H : FVec Ideal S16384x1024 .f32 := fun i => hh OD OC G X B Wd Wc Wo (rb (i 0)) (rp (i 0)) (i 1)
/-- The normalised residual stream, as rows. -/
def XN : FVec Ideal S16384x1024 .bf16 := fun i => hn OD OC G X B Wd Wc Wo N2 (rb (i 0)) (rp (i 0)) (i 1)
/-- The expert queries: the normalised stream against the query weight, as rows. -/
def QP : FVec Ideal S16384x1024 .bf16 := fun i =>
  ∑ l : Fin 1024, hn OD OC G X B Wd Wc Wo N2 (rb (i 0)) (rp (i 0)) l * Wq (ix3 (0 : Fin 1) l (i 1 : Fin 1024))

end Cert.MergeSpec
end
-- ==== Proof.MergeVal.lean ====
module
public import proofs.«01_k».proof.Proof.MergeSpec
public import proofs.«01_k».proof.Proof.Gen.MergeIdeal.Value
public import Idealize.ShloMosaic.Lib.Pipeline.ValueKit
public import Idealize.ShloMosaic.Lib.Pointwise
public import Idealize.ShloMosaic.Lib.Claim

@[expose] public section

set_option maxRecDepth 16384

noncomputable section

namespace Cert.MergeIdeal.Val

open Cert.MergeIdeal Cert.MergeIdeal.Gen Idealize.ShloMosaic Idealize.ShloMosaic.TcCoe Idealize.SL.Sem
open Idealize.ShloMosaic.Pipeline (Dat)
open Cert.MergeSpec
open scoped BigOperators

variable (m : (ℓ : Loc nD τ sig) → Buf (Elt Ideal) ℓ)

theorem idx : ∀ t : Fin cfg0.N, win0_0.index t = ![t.val, 0] ∧ win0_1.index t = ![t.val, 0] ∧ win0_2.index t = ![t.val, 0]
    ∧ win0_3.index t = ![t.val, 0] ∧ win0_4.index t = ![0, 0] ∧ win0_5.index t = ![0, 0] ∧ win0_6.index t = ![0, 0]
    ∧ win0_7.index t = ![0, 0] ∧ win0_8.index t = ![0, 0] ∧ win0_9.index t = ![0, 0] ∧ win0_10.index t = ![t.val, 0]
    ∧ win0_11.index t = ![t.val, 0] ∧ win0_12.index t = ![t.val, 0] :=
  (by decide +kernel : ∀ t : Fin grid0.N, _)

section Block
variable (x0 : FVec Ideal S512x1024 .bf16) (x1 : FVec Ideal S512x512 .bf16) (x2 : FVec Ideal S512x2048 .f32) (x3 : FVec Ideal S512x1024 .f32) (x4 : FVec Ideal S1x2048 .f32) (x5 : FVec Ideal S1024x1024 .bf16) (x6 : FVec Ideal S512x1024 .bf16) (x7 : FVec Ideal S1024x1024 .bf16) (x8 : FVec Ideal S1x1024 .f32) (x9 : FVec Ideal S1024x1024 .bf16)

/-- The gated sum at a block's row. -/
def mb (r : Fin 512) (k : Fin 1024) : EReal :=
  sg (x2 (ix2 r (⟨k.val, by omega⟩ : Fin 2048)) + x4 (ix2 (0 : Fin 1) (⟨k.val, by omega⟩ : Fin 2048)))
      * (∑ l : Fin 1024, x0 (ix2 r l) * x5 (ix2 l k))
    + sg (x2 (ix2 r (⟨1024 + k.val, by omega⟩ : Fin 2048)) + x4 (ix2 (0 : Fin 1) (⟨1024 + k.val, by omega⟩ : Fin 2048)))
      * (∑ l : Fin 512, x1 (ix2 r l) * x6 (ix2 l k))
/-- The residual stream at a block's row. -/
def hb (r : Fin 512) (k : Fin 1024) : EReal :=
  x3 (ix2 r k) + ∑ l : Fin 1024, mb x0 x1 x2 x4 x5 x6 r l * x7 (ix2 l k)
/-- The normalised residual stream at a block's row. -/
def nb (r : Fin 512) (k : Fin 1024) : EReal :=
  hb x0 x1 x2 x3 x4 x5 x6 x7 r k * Ideal.rsqrt (Ideal.div (∑ l : Fin 1024, hb x0 x1 x2 x3 x4 x5 x6 x7 r l * hb x0 x1 x2 x3 x4 x5 x6 x7 r l) (Ideal.ofBits .f32 0x44800000#32)
    + Ideal.ofBits .f32 0x358637BD#32) * x8 (ix2 (0 : Fin 1) k)

theorem pay3_at (r : Fin 512) (k : Fin 1024) : k0_pay3 (F := Ideal) x2 x4 x0 x5 x1 x6 x3 x7 (ix2 r k) = hb x0 x1 x2 x3 x4 x5 x6 x7 r k := by
  pointwise [k0_pay3, hb, mb, sg]
  rfl
theorem pay3_ld (r : Fin 512) (k : Fin 1024) : k0_pay3 (F := Ideal) (View.ld x2 r0_0) (View.ld x4 r0_1) (View.ld x0 r0_2) (View.ld x5 r0_3) (View.ld x1 r0_4) (View.ld x6 r0_2) (View.ld x3 r0_2) (View.ld x7 r0_3) (ix2 r k) = hb x0 x1 x2 x3 x4 x5 x6 x7 r k := by
  pointwise [k0_pay3, hb, mb, sg]
  rfl
theorem out10 (r : Fin 512) (k : Fin 1024) : out0_10 (F := Ideal) x0 x1 x2 x3 x4 x5 x6 x7 x8 x9 (ix2 r k) = hb x0 x1 x2 x3 x4 x5 x6 x7 r k := by
  frame_out
  exact pay3_at x0 x1 x2 x3 x4 x5 x6 x7 r k
theorem pay1_at (r : Fin 512) (k : Fin 1024) : k0_pay1 (F := Ideal) (k0_pay6 x0 x1 x2 x3 x4 x5 x6 x7 x8 x9) (k0_pay7 x0 x1 x2 x3 x4 x5 x6 x7 x8 x9) (k0_pay8 x0 x1 x2 x3 x4 x5 x6 x7 x8 x9) (ix2 r k)
    = nb x0 x1 x2 x3 x4 x5 x6 x7 x8 r k := by
  pointwise [k0_pay1, k0_pay6, k0_pay7, k0_pay8, k0_pay4, k0_pay5, pay3_ld, nb]
theorem out11 (r : Fin 512) (k : Fin 1024) : out0_11 (F := Ideal) x0 x1 x2 x3 x4 x5 x6 x7 x8 x9 (ix2 r k) = nb x0 x1 x2 x3 x4 x5 x6 x7 x8 r k := by
  refine Eq.trans ?_ (pay1_at x0 x1 x2 x3 x4 x5 x6 x7 x8 x9 r k)
  frame_out
theorem pay2_at (v : FVec Ideal S1024x1024 .bf16) (r : Fin 512) (k : Fin 1024) : k0_pay2 (F := Ideal) (k0_pay6 x0 x1 x2 x3 x4 x5 x6 x7 x8 x9) (k0_pay7 x0 x1 x2 x3 x4 x5 x6 x7 x8 x9) (k0_pay8 x0 x1 x2 x3 x4 x5 x6 x7 x8 x9) v (ix2 r k)
    = ∑ l : Fin 1024, nb x0 x1 x2 x3 x4 x5 x6 x7 x8 r l * v (ix2 l k) := by
  pointwise [k0_pay2, pay1_at]
theorem out12 (r : Fin 512) (k : Fin 1024) : out0_12 (F := Ideal) x0 x1 x2 x3 x4 x5 x6 x7 x8 x9 (ix2 r k) = ∑ l : Fin 1024, nb x0 x1 x2 x3 x4 x5 x6 x7 x8 r l * x9 (ix2 l k) := by
  refine Eq.trans ?_ (pay2_at x0 x1 x2 x3 x4 x5 x6 x7 x8 x9 x9 r k)
  frame_out
end Block

/-! ## The blocks the windows read -/

theorem tlt (t : Fin cfg0.N) : t.val < 32 := t.isLt

theorem blk0 (c : Dev nD) (t : Fin cfg0.N) (r : Fin 512) (k : Fin 1024) : iblk m c 0 t (ix2 r k)
    = m ((c : Thread nD τ).loc main_arg0) (ix3 (rb ⟨t.val * 512 + r.val, by have := tlt t; omega⟩) (rp ⟨t.val * 512 + r.val, by have := tlt t; omega⟩) k) := by
  blk_point [iblk, idx t, rb, rp]
theorem blk1 (c : Dev nD) (t : Fin cfg0.N) (r : Fin 512) (k : Fin 512) : iblk m c 1 t (ix2 r k)
    = m ((c : Thread nD τ).loc main_arg1) (ix3 (rb ⟨t.val * 512 + r.val, by have := tlt t; omega⟩) (rp ⟨t.val * 512 + r.val, by have := tlt t; omega⟩) k) := by
  blk_point [iblk, idx t, rb, rp]
theorem blk2 (c : Dev nD) (t : Fin cfg0.N) (r : Fin 512) (k : Fin 2048) : iblk m c 2 t (ix2 r k)
    = m ((c : Thread nD τ).loc main_arg2) (ix3 (rb ⟨t.val * 512 + r.val, by have := tlt t; omega⟩) (rp ⟨t.val * 512 + r.val, by have := tlt t; omega⟩) k) := by
  blk_point [iblk, idx t, rb, rp]
theorem blk3 (c : Dev nD) (t : Fin cfg0.N) (r : Fin 512) (k : Fin 1024) : iblk m c 3 t (ix2 r k)
    = m ((c : Thread nD τ).loc main_arg3) (ix3 (rb ⟨t.val * 512 + r.val, by have := tlt t; omega⟩) (rp ⟨t.val * 512 + r.val, by have := tlt t; omega⟩) k) := by
  blk_point [iblk, idx t, rb, rp]
theorem blk4 (c : Dev nD) (t : Fin cfg0.N) (r : Fin 1) (k : Fin 2048) : iblk m c 4 t (ix2 r k)
    = m ((c : Thread nD τ).loc main_arg4) (ix2 (0 : Fin 1) k) := by
  blk_point [iblk, idx t]
theorem blk8 (c : Dev nD) (t : Fin cfg0.N) (r : Fin 1) (k : Fin 1024) : iblk m c 8 t (ix2 r k)
    = m ((c : Thread nD τ).loc main_arg8) (ix2 (0 : Fin 1) k) := by
  blk_point [iblk, idx t]
theorem blk5 (c : Dev nD) (t : Fin cfg0.N) (l : Fin 1024) (k : Fin 1024) : iblk m c 5 t (ix2 l k)
    = m ((c : Thread nD τ).loc main_arg5) (ix3 (0 : Fin 1) l k) := by
  blk_point [iblk, idx t]
theorem blk6 (c : Dev nD) (t : Fin cfg0.N) (l : Fin 512) (k : Fin 1024) : iblk m c 6 t (ix2 l k)
    = m ((c : Thread nD τ).loc main_arg6) (ix3 (0 : Fin 1) l k) := by
  blk_point [iblk, idx t]
theorem blk7 (c : Dev nD) (t : Fin cfg0.N) (l : Fin 1024) (k : Fin 1024) : iblk m c 7 t (ix2 l k)
    = m ((c : Thread nD τ).loc main_arg7) (ix3 (0 : Fin 1) l k) := by
  blk_point [iblk, idx t]
theorem blk9 (c : Dev nD) (t : Fin cfg0.N) (l : Fin 1024) (k : Fin 1024) : iblk m c 9 t (ix2 l k)
    = m ((c : Thread nD τ).loc main_arg9) (ix3 (0 : Fin 1) l k) := by
  blk_point [iblk, idx t]

theorem mb_eq (c : Dev nD) (t : Fin cfg0.N) (r : Fin 512) (k : Fin 1024) : mb (iblk m c 0 t) (iblk m c 1 t) (iblk m c 2 t) (iblk m c 4 t) (iblk m c 5 t) (iblk m c 6 t) r k
    = mg (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (rb ⟨t.val * 512 + r.val, by have := tlt t; omega⟩) (rp ⟨t.val * 512 + r.val, by have := tlt t; omega⟩) k := by
  unfold mb mg
  simp only [blk0 m c t, blk1 m c t, blk2 m c t, blk4 m c t, blk5 m c t, blk6 m c t]
theorem hb_eq (c : Dev nD) (t : Fin cfg0.N) (r : Fin 512) (k : Fin 1024) : hb (iblk m c 0 t) (iblk m c 1 t) (iblk m c 2 t) (iblk m c 3 t) (iblk m c 4 t) (iblk m c 5 t) (iblk m c 6 t) (iblk m c 7 t) r k
    = hh (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (rb ⟨t.val * 512 + r.val, by have := tlt t; omega⟩) (rp ⟨t.val * 512 + r.val, by have := tlt t; omega⟩) k := by
  unfold hb hh
  simp only [mb_eq m c t, blk3 m c t, blk7 m c t]
theorem nb_eq (c : Dev nD) (t : Fin cfg0.N) (r : Fin 512) (k : Fin 1024) : nb (iblk m c 0 t) (iblk m c 1 t) (iblk m c 2 t) (iblk m c 3 t) (iblk m c 4 t) (iblk m c 5 t) (iblk m c 6 t) (iblk m c 7 t) (iblk m c 8 t) r k
    = hn (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (rb ⟨t.val * 512 + r.val, by have := tlt t; omega⟩) (rp ⟨t.val * 512 + r.val, by have := tlt t; omega⟩) k := by
  unfold nb hn
  simp only [hb_eq m c t, blk8 m c t]

/-- The residual stream: the call's result array. -/
theorem final10 (c : Dev nD) : (dats m 0 c).arrAt 10 (cfgs 0).N
    = H (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (dats m 0 c).arrAt_eq_of_covers 10 _ (by decide +kernel) fun t _ y => ?_
  blk_simp
  rw [after0_10]
  have he : ((View.whole main_v18_0).slice (win0_10.rect t)).emb y = ix2 (⟨t.val * 512 + (y 0).val, by have := tlt t; have : (y 0).val < 512 := (y 0).isLt; omega⟩ : Fin 16384) (y 1 : Fin 1024) := by
    blk_ext [idx t]
  rw [he]
  refine (congrArg _ (eq_ix2 y)).trans ((out10 _ _ _ _ _ _ _ _ _ _ (y 0) (y 1)).trans ?_)
  exact hb_eq m c t (y 0) (y 1)

/-- The normalised stream: the call's result array. -/
theorem final11 (c : Dev nD) : (dats m 0 c).arrAt 11 (cfgs 0).N
    = XN (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (dats m 0 c).arrAt_eq_of_covers 11 _ (by decide +kernel) fun t _ y => ?_
  blk_simp
  rw [after0_11]
  have he : ((View.whole main_v18_1).slice (win0_11.rect t)).emb y = ix2 (⟨t.val * 512 + (y 0).val, by have := tlt t; have : (y 0).val < 512 := (y 0).isLt; omega⟩ : Fin 16384) (y 1 : Fin 1024) := by
    blk_ext [idx t]
  rw [he]
  refine (congrArg _ (eq_ix2 y)).trans ((out11 _ _ _ _ _ _ _ _ _ _ (y 0) (y 1)).trans ?_)
  exact nb_eq m c t (y 0) (y 1)

/-- The expert queries: the call's result array. -/
theorem final12 (c : Dev nD) : (dats m 0 c).arrAt 12 (cfgs 0).N
    = QP (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (dats m 0 c).arrAt_eq_of_covers 12 _ (by decide +kernel) fun t _ y => ?_
  blk_simp
  rw [after0_12]
  have he : ((View.whole main_v18_2).slice (win0_12.rect t)).emb y = ix2 (⟨t.val * 512 + (y 0).val, by have := tlt t; have : (y 0).val < 512 := (y 0).isLt; omega⟩ : Fin 16384) (y 1 : Fin 1024) := by
    blk_ext [idx t]
  rw [he]
  refine (congrArg _ (eq_ix2 y)).trans ((out12 _ _ _ _ _ _ _ _ _ _ (y 0) (y 1)).trans ?_)
  exact Finset.sum_congr rfl fun k _ => congrArg₂ (· * ·) (nb_eq m c t (y 0) k) (blk9 m c t k _)

end Cert.MergeIdeal.Val
end
-- ==== Proof.MergeRef.lean ====
module
public import proofs.«01_k».proof.Proof.MergeSpec
public import proofs.«01_k».proof.Proof.Gen.MergeRefIdeal.Run
public import Idealize.ShloMosaic.Lib.Claim

@[expose] public section

set_option maxRecDepth 16384

noncomputable section

namespace Cert.MergeRefIdeal.Val

open Cert.MergeRefIdeal Idealize.ShloMosaic Idealize.ShloMosaic.TcCoe Idealize.SL.Sem
open Cert.MergeSpec
open scoped BigOperators

variable (m : (ℓ : Loc nD τ sig) → Buf (Elt Ideal) ℓ)

set_option maxHeartbeats 1600000 in
/-- The plain merge's run: every result is the array the specification names. -/
theorem run (g : Dev nD → PrngReg) : θ_run (defs (F := Ideal)) (onTc (τ := τ) (main (F := Ideal))) ⟨m, fun _ => 0, g⟩ fun r => ∀ c : Dev nD,
    r.2.mem ((c.tc : Thread nD τ).loc main_v48) = H (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
    ∧ r.2.mem ((c.tc : Thread nD τ).loc main_v50) = XN (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
    ∧ r.2.mem ((c.tc : Thread nD τ).loc main_v54) = QP (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9) := by
  hlo_run
  all_goals (funext i; idx_vars i)
  · pointwise [H, hh, mg, sg, rb, rp]
  · pointwise [XN, hn, hh, mg, sg, rb, rp]
  · pointwise [QP, hn, hh, mg, sg, rb, rp]

end Cert.MergeRefIdeal.Val
end
-- ==== Proof.MergeAlg.lean ====
module
public import proofs.«01_k».proof.Defs
public import proofs.«01_k».proof.Proof.Gen.MergeIdeal.Value
public import proofs.«01_k».proof.Proof.Gen.MergeRefIdeal.Run
public import proofs.«01_k».proof.Proof.MergeVal
public import proofs.«01_k».proof.Proof.MergeRef
public import Idealize.ShloMosaic.Lib.Claim
public import Idealize.ShloMosaic.Lib.Quiescent

@[expose] public section

set_option maxRecDepth 16384

noncomputable section

namespace Cert.MergeIdeal.Val

open Cert.MergeIdeal Cert.MergeSpec Idealize.ShloMosaic Idealize.ShloMosaic.TcCoe Idealize.SL.Sem

set_option maxHeartbeats 2000000 in
/-- The kernel's run: every result is the array the specification names. -/
theorem run (m : (ℓ : Loc nD τ sig) → Buf (Elt Ideal) ℓ) (g : Dev nD → PrngReg) : θ_run (defs (F := Ideal)) (onTc (τ := τ) (main (F := Ideal))) ⟨m, fun _ => 0, g⟩ fun r => ∀ c : Dev nD,
    r.2.mem ((c.tc : Thread nD τ).loc main_v18_0) = H (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
    ∧ r.2.mem ((c.tc : Thread nD τ).loc main_v18_1) = XN (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
    ∧ r.2.mem ((c.tc : Thread nD τ).loc main_v18_2) = QP (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9) := by
  run_from Cert.MergeIdeal.Gen.run_main m g
  · exact Cert.MergeIdeal.Val.final10 m c
  · exact Cert.MergeIdeal.Val.final11 m c
  · exact Cert.MergeIdeal.Val.final12 m c

end Cert.MergeIdeal.Val

namespace Cert.Proof

open Cert.MergeSpec Idealize.ShloMosaic Idealize.ShloMosaic.TcCoe Idealize.SL.Sem

/-- The merge's results are the plain merge's. -/
theorem algebraic_Merge : Cert.algebraic_MergeIdeal_MergeRefIdeal := by
  intro m g m' g' _ hagree
  refine ⟨fun c => H (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6)) (m ((c.tc : Thread Cert.MergeIdeal.nD Cert.MergeIdeal.τ).loc Cert.MergeIdeal.main_arg7)), fun c => XN (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6)) (m ((c.tc : Thread Cert.MergeIdeal.nD Cert.MergeIdeal.τ).loc Cert.MergeIdeal.main_arg7)) (m ((c.tc : Thread Cert.MergeIdeal.nD Cert.MergeIdeal.τ).loc Cert.MergeIdeal.main_arg8)), fun c => QP (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6)) (m ((c.tc : Thread Cert.MergeIdeal.nD Cert.MergeIdeal.τ).loc Cert.MergeIdeal.main_arg7)) (m ((c.tc : Thread Cert.MergeIdeal.nD Cert.MergeIdeal.τ).loc Cert.MergeIdeal.main_arg8)) (m ((c.tc : Thread Cert.MergeIdeal.nD Cert.MergeIdeal.τ).loc Cert.MergeIdeal.main_arg9)), ?_, ?_⟩
  · exact (θ_run _ _ _).mono (fun r h c => h c) (Cert.MergeIdeal.Val.run m g)
  · refine (θ_run _ _ _).mono (fun r h c => ?_) (Cert.MergeRefIdeal.Val.run m' g')
    obtain ⟨h0, h1, h2, h3, h4, h5, h6, h7, h8, h9⟩ := hagree c
    have hc := h c
    simp only [h0, h1, h2, h3, h4, h5, h6, h7, h8, h9] at hc ⊢
    exact hc

/-- The plain reference runs and keeps its arguments. -/
theorem frame_MergeRefIdeal : Cert.quiescent_MergeRefIdeal := by
  intro m g _
  refine (θ_run _ _ _).mono (fun r h => ⟨fun c => ?_, sem_eq_zero_of_no_sems (by decide) r.2⟩) (Cert.MergeRefIdeal.Val.run m g)
  exact (h c).2.2.2

end Cert.Proof
end
-- ==== Proof.lean ====
module
public import proofs.«01_k».proof.Defs
public import proofs.«01_k».proof.Proof.Gen.Diff.Frame
public import proofs.«01_k».proof.Proof.Gen.DiffIdeal.Frame
public import proofs.«01_k».proof.Proof.DiffAlg
public import proofs.«01_k».proof.Proof.Gen.InProj.Frame
public import proofs.«01_k».proof.Proof.Gen.InProjIdeal.Frame
public import proofs.«01_k».proof.Proof.InAlg
public import proofs.«01_k».proof.Proof.Gen.Merge.Frame
public import proofs.«01_k».proof.Proof.Gen.MergeIdeal.Frame
public import proofs.«01_k».proof.Proof.MergeAlg
public import proofs.«01_k».proof.Proof.Gen.Pre_finite

@[expose] public section

set_option maxRecDepth 16384

noncomputable section

namespace Cert.Proof

open Idealize.ShloMosaic Idealize.SL.Sem

/-- The mask's constant is named, and its named value is minus infinity. -/
theorem preserves_Diff : Cert.preserves_Diff_DiffIdeal :=
  IdealRules.named_const.statement _ _ _ _ _ rfl

/-- The certificate's claim. -/
theorem claim : Cert.Claim := ⟨Cert.Diff.Gen.facts, Cert.DiffIdeal.Gen.facts, Cert.DiffRefIdeal.Gen.facts, Cert.InProj.Gen.facts, Cert.InProjIdeal.Gen.facts, Cert.InRefIdeal.Gen.facts, Cert.Merge.Gen.facts, Cert.MergeIdeal.Gen.facts, Cert.MergeRefIdeal.Gen.facts, Cert.Pre_finite.Gen.facts, fun m ρ _ => Cert.Diff.Gen.frame m ρ, fun m ρ _ => Cert.DiffIdeal.Gen.frame m ρ, fun m ρ _ => Cert.DiffIdeal.Gen.frame m ρ, Diff.frame_DiffRef, Diff.frame_DiffRef_fin, fun m ρ _ => Cert.InProj.Gen.frame m ρ, fun m ρ _ => Cert.InProjIdeal.Gen.frame m ρ, frame_InRefIdeal, fun m ρ _ => Cert.Merge.Gen.frame m ρ, fun m ρ _ => Cert.MergeIdeal.Gen.frame m ρ, frame_MergeRefIdeal, preserves_Diff, Diff.algebraic_Diff, trivial, algebraic_InProj, trivial, algebraic_Merge⟩

end Cert.Proof
end
